-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S2x512 : Shape := ⟨2, ![2, 512]⟩
abbrev S16x2x512 : Shape := ⟨3, ![16, 2, 512]⟩
abbrev S_ : Shape := ⟨0, ![]⟩
abbrev S15 : Shape := ⟨1, ![15]⟩
abbrev S512 : Shape := ⟨1, ![512]⟩
abbrev S1x512 : Shape := ⟨2, ![1, 512]⟩
abbrev S1x2x512 : Shape := ⟨3, ![1, 2, 512]⟩
abbrev S1 : Shape := ⟨1, ![1]⟩
abbrev S16x1x512 : Shape := ⟨3, ![16, 1, 512]⟩
abbrev S16x512 : Shape := ⟨2, ![16, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S2x512, .f32⟩
  | .local _ .vmem, ⟨0, _⟩ => ⟨S2x512, .f32⟩
  | .local _ .vmem, ⟨1, _⟩ => ⟨S1024x512, .f32⟩
  | .local _ .vmem, ⟨2, _⟩ => ⟨S16x2x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_65 : BitVec 32 := 1#32
  let v83 : BitVec 32 := Scalar.addi v2 c1_i32_65
  let c16_i32_66 : BitVec 32 := 16#32
  let v84 : BitVec 32 := Scalar.remsi v83 c16_i32_66
  let c1_i32_71 : BitVec 32 := 1#32
  let v85 : BitVec 32 := Scalar.muli v84 c1_i32_71
  let v86 : BitVec 32 := Scalar.addi c0_i32_72 v85
  v86.toNat
def k0_dev17 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_77 : BitVec 32 := 2#32
  let v95 : BitVec 32 := Scalar.addi v2 c2_i32_77
  let c16_i32_78 : BitVec 32 := 16#32
  let v96 : BitVec 32 := Scalar.remsi v95 c16_i32_78
  let c1_i32_83 : BitVec 32 := 1#32
  let v97 : BitVec 32 := Scalar.muli v96 c1_i32_83
  let v98 : BitVec 32 := Scalar.addi c0_i32_84 v97
  v98.toNat
def k0_dev18 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_89 : BitVec 32 := 3#32
  let v107 : BitVec 32 := Scalar.addi v2 c3_i32_89
  let c16_i32_90 : BitVec 32 := 16#32
  let v108 : BitVec 32 := Scalar.remsi v107 c16_i32_90
  let c1_i32_95 : BitVec 32 := 1#32
  let v109 : BitVec 32 := Scalar.muli v108 c1_i32_95
  let v110 : BitVec 32 := Scalar.addi c0_i32_96 v109
  v110.toNat
def k0_dev19 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_101 : BitVec 32 := 4#32
  let v119 : BitVec 32 := Scalar.addi v2 c4_i32_101
  let c16_i32_102 : BitVec 32 := 16#32
  let v120 : BitVec 32 := Scalar.remsi v119 c16_i32_102
  let c1_i32_107 : BitVec 32 := 1#32
  let v121 : BitVec 32 := Scalar.muli v120 c1_i32_107
  let v122 : BitVec 32 := Scalar.addi c0_i32_108 v121
  v122.toNat
def k0_dev20 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_113 : BitVec 32 := 5#32
  let v131 : BitVec 32 := Scalar.addi v2 c5_i32_113
  let c16_i32_114 : BitVec 32 := 16#32
  let v132 : BitVec 32 := Scalar.remsi v131 c16_i32_114
  let c1_i32_119 : BitVec 32 := 1#32
  let v133 : BitVec 32 := Scalar.muli v132 c1_i32_119
  let v134 : BitVec 32 := Scalar.addi c0_i32_120 v133
  v134.toNat
def k0_dev21 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_125 : BitVec 32 := 6#32
  let v143 : BitVec 32 := Scalar.addi v2 c6_i32_125
  let c16_i32_126 : BitVec 32 := 16#32
  let v144 : BitVec 32 := Scalar.remsi v143 c16_i32_126
  let c1_i32_131 : BitVec 32 := 1#32
  let v145 : BitVec 32 := Scalar.muli v144 c1_i32_131
  let v146 : BitVec 32 := Scalar.addi c0_i32_132 v145
  v146.toNat
def k0_dev22 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_137 : BitVec 32 := 7#32
  let v155 : BitVec 32 := Scalar.addi v2 c7_i32_137
  let c16_i32_138 : BitVec 32 := 16#32
  let v156 : BitVec 32 := Scalar.remsi v155 c16_i32_138
  let c1_i32_143 : BitVec 32 := 1#32
  let v157 : BitVec 32 := Scalar.muli v156 c1_i32_143
  let v158 : BitVec 32 := Scalar.addi c0_i32_144 v157
  v158.toNat
def k0_dev23 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_149 : BitVec 32 := 8#32
  let v167 : BitVec 32 := Scalar.addi v2 c8_i32_149
  let c16_i32_150 : BitVec 32 := 16#32
  let v168 : BitVec 32 := Scalar.remsi v167 c16_i32_150
  let c1_i32_155 : BitVec 32 := 1#32
  let v169 : BitVec 32 := Scalar.muli v168 c1_i32_155
  let v170 : BitVec 32 := Scalar.addi c0_i32_156 v169
  v170.toNat
def k0_dev24 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_161 : BitVec 32 := 9#32
  let v179 : BitVec 32 := Scalar.addi v2 c9_i32_161
  let c16_i32_162 : BitVec 32 := 16#32
  let v180 : BitVec 32 := Scalar.remsi v179 c16_i32_162
  let c1_i32_167 : BitVec 32 := 1#32
  let v181 : BitVec 32 := Scalar.muli v180 c1_i32_167
  let v182 : BitVec 32 := Scalar.addi c0_i32_168 v181
  v182.toNat
def k0_dev25 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_173 : BitVec 32 := 10#32
  let v191 : BitVec 32 := Scalar.addi v2 c10_i32_173
  let c16_i32_174 : BitVec 32 := 16#32
  let v192 : BitVec 32 := Scalar.remsi v191 c16_i32_174
  let c1_i32_179 : BitVec 32 := 1#32
  let v193 : BitVec 32 := Scalar.muli v192 c1_i32_179
  let v194 : BitVec 32 := Scalar.addi c0_i32_180 v193
  v194.toNat
def k0_dev26 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_185 : BitVec 32 := 11#32
  let v203 : BitVec 32 := Scalar.addi v2 c11_i32_185
  let c16_i32_186 : BitVec 32 := 16#32
  let v204 : BitVec 32 := Scalar.remsi v203 c16_i32_186
  let c1_i32_191 : BitVec 32 := 1#32
  let v205 : BitVec 32 := Scalar.muli v204 c1_i32_191
  let v206 : BitVec 32 := Scalar.addi c0_i32_192 v205
  v206.toNat
def k0_dev27 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_197 : BitVec 32 := 12#32
  let v215 : BitVec 32 := Scalar.addi v2 c12_i32_197
  let c16_i32_198 : BitVec 32 := 16#32
  let v216 : BitVec 32 := Scalar.remsi v215 c16_i32_198
  let c1_i32_203 : BitVec 32 := 1#32
  let v217 : BitVec 32 := Scalar.muli v216 c1_i32_203
  let v218 : BitVec 32 := Scalar.addi c0_i32_204 v217
  v218.toNat
def k0_dev28 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_209 : BitVec 32 := 13#32
  let v227 : BitVec 32 := Scalar.addi v2 c13_i32_209
  let c16_i32_210 : BitVec 32 := 16#32
  let v228 : BitVec 32 := Scalar.remsi v227 c16_i32_210
  let c1_i32_215 : BitVec 32 := 1#32
  let v229 : BitVec 32 := Scalar.muli v228 c1_i32_215
  let v230 : BitVec 32 := Scalar.addi c0_i32_216 v229
  v230.toNat
def k0_dev29 (d0 : Dev nD) : Nat :=
  let c0_i32_228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_221 : BitVec 32 := 14#32
  let v239 : BitVec 32 := Scalar.addi v2 c14_i32_221
  let c16_i32_222 : BitVec 32 := 16#32
  let v240 : BitVec 32 := Scalar.remsi v239 c16_i32_222
  let c1_i32_227 : BitVec 32 := 1#32
  let v241 : BitVec 32 := Scalar.muli v240 c1_i32_227
  let v242 : BitVec 32 := Scalar.addi c0_i32_228 v241
  v242.toNat
def k0_dev30 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_233 : BitVec 32 := 15#32
  let v251 : BitVec 32 := Scalar.addi v2 c15_i32_233
  let c16_i32_234 : BitVec 32 := 16#32
  let v252 : BitVec 32 := Scalar.remsi v251 c16_i32_234
  let c1_i32_239 : BitVec 32 := 1#32
  let v253 : BitVec 32 := Scalar.muli v252 c1_i32_239
  let v254 : BitVec 32 := Scalar.addi c0_i32_240 v253
  v254.toNat
abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S16384x512 : Shape := ⟨2, ![16384, 512]⟩
abbrev S_ : Shape := ⟨0, ![]⟩
abbrev S512 : Shape := ⟨1, ![512]⟩
abbrev S1x512 : Shape := ⟨2, ![1, 512]⟩
abbrev S2x512 : Shape := ⟨2, ![2, 512]⟩

abbrev nBuf : Space → Nat
  | .hbm => 12
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .i32⟩
  | .hbm, ⟨2, _⟩ => ⟨S_, .f32⟩
  | .hbm, ⟨3, _⟩ => ⟨S_, .i32⟩
  | .hbm, ⟨4, _⟩ => ⟨S512, .f32⟩
  | .hbm, ⟨5, _⟩ => ⟨S512, .i32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S1x512, .f32⟩
  | .hbm, ⟨11, _⟩ => ⟨S2x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Program.lean ====
/-
The kernel's body with its unrolled steps folded into loops.

The kernel sends one barrier signal, one copy and one pair of waits per OTHER device, written out fifteen times each.
This module names the fifteen steps once, by the distance `j + 1` from the device to its peer, and states that the
printed body is the program that runs each family of steps over that list.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Mesh16

open Cert.KernelIdeal Cert.KernelIdeal.Gen
open Idealize.ShloMosaic Idealize.ShloMosaic.TcCoe
open Idealize.SL Idealize.SL.Sem

variable {F : FTy → Type} [FloatOps F]

/-! ## The peers -/

/-- The device `j + 1` places after `c` on the ring of sixteen. -/
def peer (c : Dev nD) (j : Fin 15) : Dev nD := ⟨(c.val + (j.val + 1)) % 16, Nat.mod_lt _ (by decide)⟩

/-- Going `j + 1` places on and then `15 - j` places on comes back. -/
theorem peer_rev (c : Dev nD) (j : Fin 15) : peer (peer c j) j.rev = c := by revert c j; decide

/-- The same with the two distances exchanged. -/
theorem peer_rev' (c : Dev nD) (j : Fin 15) : peer (peer c j.rev) j = c := by revert c j; decide

/-- No device is its own peer at any of the fifteen distances. -/
theorem peer_ne (c : Dev nD) (j : Fin 15) : peer c j ≠ c := by revert c j; decide

/-- Shifting every device by the distance `j + 1`. -/
def shift (j : Fin 15) : Dev nD ≃ Dev nD := ⟨fun c => peer c j, fun c => peer c j.rev, fun c => peer_rev c j, fun c => peer_rev' c j⟩

/-- The fifteen distances in the kernel's order. -/
def dists : List (Fin 15) := [0, 1, 2, 3, 4, 5, 6, 7, 8, 9, 10, 11, 12, 13, 14]

theorem dists_nodup : dists.Nodup := by decide
theorem dists_univ : Finset.univ = dists.toFinset := by decide

/-- The device the kernel's `j`-th barrier signal names, as the kernel computes it. -/
def sigDev (c : Dev nD) : Fin 15 → Dev nD
  | 0 => ⟨k0_dev1 c, k0_dev1_lt c⟩ | 1 => ⟨k0_dev2 c, k0_dev2_lt c⟩ | 2 => ⟨k0_dev3 c, k0_dev3_lt c⟩ | 3 => ⟨k0_dev4 c, k0_dev4_lt c⟩
  | 4 => ⟨k0_dev5 c, k0_dev5_lt c⟩ | 5 => ⟨k0_dev6 c, k0_dev6_lt c⟩ | 6 => ⟨k0_dev7 c, k0_dev7_lt c⟩ | 7 => ⟨k0_dev8 c, k0_dev8_lt c⟩
  | 8 => ⟨k0_dev9 c, k0_dev9_lt c⟩ | 9 => ⟨k0_dev10 c, k0_dev10_lt c⟩ | 10 => ⟨k0_dev11 c, k0_dev11_lt c⟩ | 11 => ⟨k0_dev12 c, k0_dev12_lt c⟩
  | 12 => ⟨k0_dev13 c, k0_dev13_lt c⟩ | 13 => ⟨k0_dev14 c, k0_dev14_lt c⟩ | 14 => ⟨k0_dev15 c, k0_dev15_lt c⟩

/-- The device the kernel's `j`-th copy names, as the kernel computes it. -/
def dstDev (c : Dev nD) : Fin 15 → Dev nD
  | 0 => ⟨k0_dev16 c, k0_dev16_lt c⟩ | 1 => ⟨k0_dev17 c, k0_dev17_lt c⟩ | 2 => ⟨k0_dev18 c, k0_dev18_lt c⟩ | 3 => ⟨k0_dev19 c, k0_dev19_lt c⟩
  | 4 => ⟨k0_dev20 c, k0_dev20_lt c⟩ | 5 => ⟨k0_dev21 c, k0_dev21_lt c⟩ | 6 => ⟨k0_dev22 c, k0_dev22_lt c⟩ | 7 => ⟨k0_dev23 c, k0_dev23_lt c⟩
  | 8 => ⟨k0_dev24 c, k0_dev24_lt c⟩ | 9 => ⟨k0_dev25 c, k0_dev25_lt c⟩ | 10 => ⟨k0_dev26 c, k0_dev26_lt c⟩ | 11 => ⟨k0_dev27 c, k0_dev27_lt c⟩
  | 12 => ⟨k0_dev28 c, k0_dev28_lt c⟩ | 13 => ⟨k0_dev29 c, k0_dev29_lt c⟩ | 14 => ⟨k0_dev30 c, k0_dev30_lt c⟩

/-- The kernel's `j`-th signal goes to the peer at distance `j + 1`. -/
theorem sigDev_eq (c : Dev nD) (j : Fin 15) : sigDev c j = peer c j := by revert c j; decide +kernel
/-- The kernel's `j`-th copy goes to the peer at distance `j + 1`. -/
theorem dstDev_eq (c : Dev nD) (j : Fin 15) : dstDev c j = peer c j := by revert c j; decide +kernel

/-! ## The buffers and semaphores -/

/-- The device's block of `x`, in HBM. -/
abbrev xM : Memref sig .tc .hbm S1024x512 .f32 := Memref.whole main_arg0
/-- The result's staging buffer. -/
abbrev oM : Memref sig .tc .vmem S2x512 .f32 := Memref.whole cc0_stg0_0
/-- The block of `x` once loaded into VMEM. -/
abbrev vM : Memref sig .tc .vmem S1024x512 .f32 := Memref.whole cc0_scratch0
/-- The sixteen gathered pairs (a column maximum and its index), one slot per device. -/
abbrev gM : Memref sig .tc .vmem S16x2x512 .f32 := Memref.whole cc0_scratch1

/-- Slot `i` lies inside the gather buffer. -/
theorem slot_inb (i : Fin 16) : ∀ a, (![i.val, 0, 0] : Fin 3 → Nat) a + S1x2x512.size a ≤ S16x2x512.size a := by
  revert i; decide

/-- The rectangle of slot `i` in the gather buffer. -/
abbrev slotR (i : Fin 16) : Rect S16x2x512 := Rect.unit (s := S16x2x512) ![i.val, 0, 0] S1x2x512.size (slot_inb i)

/-- Slot `i` of the gather buffer, as the 2 by 512 array the kernel's copies name. -/
abbrev slot (i : Fin 16) : Memref sig .tc .vmem S2x512 .f32 :=
  ((gM : Memref sig .tc .vmem S16x2x512 .f32).slice (slotR i) (fun _ => rfl)).squeeze S2x512 squeezes_S1x2x512_S2x512

/-- Send or receive semaphore `j` lies inside its array of fifteen. -/
theorem sem_inb (j : Fin 15) : ∀ a, (![j.val] : Fin 1 → Nat) a + S1.size a ≤ S15.size a := by
  revert j; decide

/-- The runtime's barrier semaphore. -/
abbrev barS : Sem sig := (SemArray.scalar (sig.barrier 0 rfl) : Sems sig S_).sem
/-- The semaphore of the load of `x`. -/
abbrev loadS : DmaSem sig := cc0_scratch2.sem
/-- Entry `j` of an array of fifteen semaphores. -/
abbrev semAt (a : DmaSems sig S15) (j : Fin 15) : DmaSem sig :=
  ((a.slice (Rect.unit (s := S15) ![j.val] S1.size (sem_inb j))).squeeze S_ squeezes_S1_S_).sem
/-- Copy `j`'s semaphore on the sender. -/
abbrev sendS (j : Fin 15) : DmaSem sig := semAt cc0_scratch3 j
/-- Copy `j`'s semaphore on the receiver. -/
abbrev recvS (j : Fin 15) : DmaSem sig := semAt cc0_scratch4 j

/-- The two rows of every slot the final reduction loads: the maxima (`r = 0`) and the indices (`r = 1`). -/
abbrev valsR : Rect S16x2x512 := Rect.unit (s := S16x2x512) ![0, 0, 0] S16x1x512.size inb_S16x2x512_S16x1x512_0_0_0
abbrev idxsR : Rect S16x2x512 := Rect.unit (s := S16x2x512) ![0, 1, 0] S16x1x512.size inb_S16x2x512_S16x1x512_0_1_0
/-- The whole of the block of `x`, and of the result. -/
abbrev xR : Rect S1024x512 := Rect.unit (s := S1024x512) ![0, 0] S1024x512.size inb_S1024x512_S1024x512_0_0
abbrev oR : Rect S2x512 := Rect.unit (s := S2x512) ![0, 0] S2x512.size inb_S2x512_S2x512_0_0

/-! ## The body as loops -/

/-- Run one step per distance, in the kernel's order. -/
def each (f : Fin 15 → Prog (TpuEff nD τ sig (Elt F) Λ₀ .tc) PUnit) : List (Fin 15) → Prog (TpuEff nD τ sig (Elt F) Λ₀ .tc) PUnit
  | [] => .ret ⟨⟩
  | j :: js => f j >>= fun _ => each f js

/-- Step `j` of the barrier: one unit to the peer. -/
def signalStep (n : Dev nD) : Prog (TpuEff nD τ sig (Elt F) Λ₀ .tc) PUnit := semSignalWord n barS 1#32

/-- Step `j` of the exchange: the device's own pair (slot 15) copied into slot `j` of device `n`. -/
def sendStep (n : Dev nD) (j : Fin 15) : Prog (TpuEff nD τ sig (Elt F) Λ₀ .tc) PUnit :=
  Prog.lift (.enqueueDma (slot 15) (.remote (Dev.tc n) (slot j.castSucc) (.dma (sendS j))) (.dma (recvS j))
    ((View.wordExact_bits rfl).reshape _ _) ((View.wordExact_bits rfl).reshape _ _) ⟨⟨rfl, Or.inl rfl⟩, trivial⟩)

/-- Step `j` of the receive: wait until slot `j` has been filled. -/
def recvStep (j : Fin 15) : Prog (TpuEff nD τ sig (Elt F) Λ₀ .tc) PUnit :=
  Prog.lift (.waitDma2 (recvS j) (slot 15) (slot j.castSucc) ((View.wordExact_bits rfl).reshape _ _) ((View.wordExact_bits rfl).reshape _ _))

/-- Step `j` of the drain: wait until copy `j` has left. -/
def drainStep (j : Fin 15) : Prog (TpuEff nD τ sig (Elt F) Λ₀ .tc) PUnit :=
  Prog.lift (.waitDma2 (sendS j) (slot j.castSucc) (slot 15) ((View.wordExact_bits rfl).reshape _ _) ((View.wordExact_bits rfl).reshape _ _))

/-- The device number as the kernel computes it from its id. -/
def devWord (c : Dev nD) : BitVec 32 := Scalar.remsi (Scalar.divsi (Dev.word c) 1#32) 16#32

/-- The body with its four families of fifteen steps as loops. -/
def loopBody : Prog (TpuEff nD τ sig (Elt F) Λ₀ .tc) PUnit := do
  let c : Dev nD ← Prog.lift .deviceId
  each (fun j => signalStep (sigDev c j)) dists
  Prog.lift (.enqueueDma xM (.here vM) (.dma loadS) (Memref.isWhole_whole _).wordExact (Memref.isWhole_whole _).wordExact ⟨Or.inl rfl, trivial⟩)
  Prog.lift (.waitDma2 loadS xM vM (Memref.isWhole_whole _).wordExact (Memref.isWhole_whole _).wordExact)
  let x : Vec F S1024x512 .f32 ← Prog.lift (.load vM xR.toLoadRect (View.loadsAt_vmem h_S1024x512))
  let _ : Vec F S1x2x512 .f32 ← Prog.lift (.load gM (slotR 15).toLoadRect (View.loadsAt_vmem h_S1x2x512))
  Prog.lift (.store gM (slotR 15) (k0_pay4 (k0_pay2 x) (k0_pay3 (devWord c) x)) Finset.univ (View.stores_vmem_bits_univ h_S1x2x512 rfl) (.inl rfl))
  semWaitWord barS 15#32
  each (fun j => sendStep (dstDev c j) j) dists
  each recvStep dists
  let vals : Vec F S16x1x512 .f32 ← Prog.lift (.load gM valsR.toLoadRect (View.loadsAt_vmem h_S16x1x512))
  let idxs : Vec F S16x1x512 .f32 ← Prog.lift (.load gM idxsR.toLoadRect (View.loadsAt_vmem h_S16x1x512))
  let _ : Vec F S2x512 .f32 ← Prog.lift (.load oM oR.toLoadRect (View.loadsAt_vmem h_S2x512))
  Prog.lift (.store oM oR (k0_pay5 vals idxs) Finset.univ (View.stores_vmem_bits_univ h_S2x512 rfl) (.inl rfl))
  each drainStep dists

/-- The printed body is the loops. -/
theorem body_eq_loop :
    cc0_body (F := F) xM (Memref.isWhole_whole _) oM (Memref.isWhole_whole _) vM (Memref.isWhole_whole _) gM (Memref.isWhole_whole _)
      cc0_scratch2 cc0_scratch3 cc0_scratch4 = loopBody := rfl

end Cert.Mesh16

end
-- ==== Proof.Slots.lean ====
/-
The gather buffer's sixteen slots and what they hold.

Slot `j` (for `j` below fifteen) of device `c` is filled by the device `j + 1` places before `c`, slot 15 by `c` itself.
One array per device, `gath`, names all sixteen pairs, so every slot is held at that array.
-/
module

public import proofs.«01_k».proof.Proof.Program
public import Idealize.ShloMosaic.Lib.Ring
public import Idealize.ShloMosaic.Lib.ValueIdxCore

@[expose] public section

noncomputable section

namespace Cert.Mesh16

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

/-! ## Contents -/

/-- The device's block of `x` at launch. -/
def blockOf (c : Dev nD) : Vec F S1024x512 .f32 := m ((c : Thread nD τ).loc main_arg0)

/-- The pair a device computes from a block: each column's maximum and, as a float, the least row index that attains it. -/
def pairOf (c : Dev nD) (x : Vec F S1024x512 .f32) : Vec F S1x2x512 .f32 := k0_pay4 (k0_pay2 x) (k0_pay3 (devWord c) x)

/-- The device whose pair slot `i` of device `c` receives. -/
def srcDev (c : Dev nD) (i : Fin 16) : Dev nD := ⟨(c.val + 15 - i.val) % 16, Nat.mod_lt _ (by decide)⟩

/-- Slot 15 holds the device's own pair. -/
theorem srcDev_own (c : Dev nD) : srcDev c 15 = c := by revert c; decide
/-- Slot `j` of the peer at distance `j + 1` holds this device's pair. -/
theorem srcDev_peer (c : Dev nD) (j : Fin 15) : srcDev (peer c j) j.castSucc = c := by revert c j; decide
/-- The sixteen slots of a device come from the sixteen devices, each once. -/
theorem srcDev_srcDev (c d : Dev nD) : srcDev c (srcDev c d) = d := by revert c d; decide

/-- Device `c`'s gather buffer once every slot is filled. -/
def gath (c : Dev nD) : Vec F S16x2x512 .f32 := fun i =>
  pairOf (srcDev c (i 0)) (blockOf m (srcDev c (i 0))) (ValueIdx.ix3 (n0 := 1) (n1 := 2) (n2 := 512) 0 (i 1) (i 2))

/-- The result on device `c`: the maxima and the indices of the sixteen pairs combined. -/
def result (c : Dev nD) : Vec F S2x512 .f32 :=
  k0_pay5 ((gM : Memref sig .tc .vmem S16x2x512 .f32).view.readAt (Elt F) valsR.toLoadRect (gath m c))
    ((gM : Memref sig .tc .vmem S16x2x512 .f32).view.readAt (Elt F) idxsR.toLoadRect (gath m c))

/-- At slot `i`, the gathered array is the pair of the slot's source device. -/
theorem gath_slot (c : Dev nD) (i : Fin 16) (z : S1x2x512.Idx) :
    gath m c ((slotR i).emb z) = pairOf (srcDev c i) (blockOf m (srcDev c i)) z := by
  have h0 : ((slotR i).emb z) 0 = i := Fin.ext (by
    have hz : (z 0 : Nat) < 1 := (z 0).isLt
    show i.val + 1 * (z 0 : Nat) = i.val; omega)
  have hz : ValueIdx.ix3 (n0 := 1) (n1 := 2) (n2 := 512) 0 (((slotR i).emb z) 1) (((slotR i).emb z) 2) = z := by
    funext a
    match a with
    | ⟨0, _⟩ => exact Fin.ext (by have hz : (z 0 : Nat) < 1 := (z 0).isLt; show 0 = (z 0 : Nat); omega)
    | ⟨1, _⟩ => exact Fin.ext (by show 0 + 1 * (z 1 : Nat) = (z 1 : Nat); omega)
    | ⟨2, _⟩ => exact Fin.ext (by show 0 + 1 * (z 2 : Nat) = (z 2 : Nat); omega)
  unfold gath
  rw [hz, h0]

/-! ## The slots' elements -/

/-- A slot's elements are its rectangle's. -/
theorem slot_set (i : Fin 16) : (slot i).view.set = (slotR i).set :=
  (View.set_reshape _ _).trans (View.set_slice_whole _ _)

/-- Two slots share no element. -/
theorem slot_disjoint (i i' : Fin 16) (h : i ≠ i') : Disjoint (slotR i).set (slotR i').set :=
  Ring.lead_disjoint (s := S16x2x512) (NB := 16) 0 1 (fun i => ![i.val, 0, 0]) S1x2x512.size slot_inb
    (fun b => (Nat.one_mul _).symm) rfl i i' h

/-- The sixteen slots cover the buffer. -/
theorem slot_cover : Finset.univ.biUnion (fun i => (slotR i).set) = Finset.univ :=
  Ring.lead_cover (s := S16x2x512) (NB := 16) 0 1 (fun i => ![i.val, 0, 0]) S1x2x512.size slot_inb
    (fun b => (Nat.one_mul _).symm) (fun b a ha => by fin_cases a <;> first | rfl | exact absurd rfl ha) rfl
    (fun a ha => by fin_cases a <;> first | rfl | exact absurd rfl ha) rfl

/-- The store of the device's pair through slot 15's rectangle leaves the gathered array on that slot. -/
theorem own_written (c : Dev nD) (f : S16x2x512.Idx → Elt F .f32) (i : S16x2x512.Idx) (hi : i ∈ (slotR 15).set) :
    ((gM : Memref sig .tc .vmem S16x2x512 .f32).access (slotR 15) : View sig .tc _ _ _).write (Elt F) f (pairOf c (blockOf m c)) Finset.univ i
      = gath m c i := by
  rw [← Rect.map_emb_univ] at hi
  obtain ⟨z, -, rfl⟩ := Finset.mem_map.mp hi
  rw [gath_slot, srcDev_own]
  exact View.write_emb_of_mem (v := ((gM : Memref sig .tc .vmem S16x2x512 .f32).access (slotR 15) : View sig .tc _ _ _)) f _ (Finset.mem_univ z)

/-- Copying slot 15 into slot `j` of the peer at distance `j + 1` leaves the peer's gathered array on that slot. -/
theorem copy_written (c : Dev nD) (j : Fin 15) (f : S16x2x512.Idx → Elt F .f32) (i : S16x2x512.Idx) (hi : i ∈ (slot j.castSucc).view.set) :
    (slot j.castSucc).view.write (Elt F) f ((slot 15).view.read (Elt F) (gath m c)) Finset.univ i = gath m (peer c j) i := by
  obtain ⟨y, -, rfl⟩ := Finset.mem_map.mp hi
  refine (View.write_emb_of_mem (v := (slot j.castSucc).view) f _ (Finset.mem_univ y)).trans ?_
  show gath m c ((slotR 15).emb (Shape.reshapeEquiv _ y)) = gath m (peer c j) ((slotR j.castSucc).emb (Shape.reshapeEquiv _ y))
  rw [gath_slot, gath_slot, srcDev_own, srcDev_peer]

end Cert.Mesh16

end
-- ==== Proof.Schedule.lean ====
/-
The protocol between the sixteen devices as a schedule of semaphore cells.

Each device has thirty-two cells the kernel waits on: its barrier, its load, fifteen send and fifteen receive cells. Each
cell has one round. The barrier's round has fifteen duties, one unit each, paid by the fifteen other devices; every other
cell's round has one duty, paid by the copy that completes on it. This module states what each duty hands over, what a
device owes when the kernel starts, and why every wait may be made at the point where the kernel makes it.
-/
module

public import proofs.«01_k».proof.Proof.Slots

@[expose] public section

noncomputable section

namespace Cert.Mesh16

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

/-- The rounds of the kernel's cells, duties named by distance, and the staging pipeline's beside them. -/
abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells by role -/

/-- The roles of the semaphores scoped to the kernel: the load, a send, a receive. -/
abbrev Own : Type := Unit ⊕ Fin 15 ⊕ Fin 15
/-- The roles of all the semaphores the kernel waits on: the barrier beside those. -/
abbrev Role : Type := Unit ⊕ Own

abbrev Role.bar : Role := .inl ()
abbrev Role.load : Role := .inr (.inl ())
abbrev Role.send (j : Fin 15) : Role := .inr (.inr (.inl j))
abbrev Role.recv (j : Fin 15) : Role := .inr (.inr (.inr j))

/-- The scoped semaphore of a role; -/
abbrev osem : Own → SemLoc sig
  | .inl _ => .dma loadS
  | .inr (.inl j) => .dma (sendS j)
  | .inr (.inr j) => .dma (recvS j)
/-- the semaphore of a role. -/
abbrev csem : Role → SemLoc sig
  | .inl _ => .reg barS
  | .inr k => osem k
/-- The role of a semaphore: of the DMA semaphores, number 0 is the result's staging, 1 the load, 2 to 16 the sends and
    17 to 31 the receives. -/
def roleOf : SemLoc sig → Option Role
  | .reg _ => some .bar
  | .dma q =>
    if q.val = 0 then none
    else if q.val = 1 then some .load
    else if h : q.val - 2 < 15 then some (.send ⟨q.val - 2, h⟩)
    else if h : q.val - 17 < 15 then some (.recv ⟨q.val - 17, h⟩)
    else none

/-- A role's semaphore has that role. -/
theorem roleOf_csem (k : Role) : roleOf (csem k) = some k := by
  revert k; decide +kernel

/-- The cell of a device and a role. -/
abbrev kcell (ck : Dev nD × Role) : GSem nD τ sig := ((ck.1 : Thread nD τ), csem ck.2)
abbrev barCell (c : Dev nD) : GSem nD τ sig := ((c : Thread nD τ), .reg barS)
abbrev loadCell (c : Dev nD) : GSem nD τ sig := ((c : Thread nD τ), .dma loadS)
abbrev sendCell (c : Dev nD) (j : Fin 15) : GSem nD τ sig := ((c : Thread nD τ), .dma (sendS j))
abbrev recvCell (c : Dev nD) (j : Fin 15) : GSem nD τ sig := ((c : Thread nD τ), .dma (recvS j))

/-- Different devices and roles have different cells. -/
theorem kcell_injective : Function.Injective (kcell : Dev nD × Role → GSem nD τ sig) := by
  rintro ⟨c, k⟩ ⟨c', k'⟩ h
  have h1 : c = c' := congrArg (fun g : GSem nD τ sig => g.1.1) h
  have h2 : csem k = csem k' := congrArg Prod.snd h
  have h3 : k = k' := Option.some.inj (by rw [← roleOf_csem, ← roleOf_csem, h2])
  rw [h1, h3]

/-- What the load credits its cell; -/
def NL : ℕ := (vM : Memref sig .tc .vmem S1024x512 .f32).view.dmaCredit
/-- what a copy of a pair credits each of its cells. -/
def N : ℕ := (slot 15).view.dmaCredit
theorem NL_pos : 0 < NL := View.dmaCredit_pos _ (by decide)
theorem N_pos : 0 < N := View.dmaCredit_pos _ (by decide)
/-- The load's buffer carries that credit; -/
theorem load_credit : (vM : Memref sig .tc .vmem S1024x512 .f32).view.dmaCredit = NL := rfl
/-- every slot the same one. -/
theorem slot_credit (i : Fin 16) : (slot i).view.dmaCredit = N := rfl
attribute [irreducible] NL N

/-! ## What the duties hand over -/

/-- Slot `i` of device `c` at contents `f`. -/
def slotPts (c : Dev nD) (i : Fin 16) (q : PosShare TreeShare) (f : Buf (Elt F) ((c : Thread nD τ).loc cc0_scratch1)) : sProp 𝕄 :=
  (slot i).view.loc (c : Thread nD τ) ↦[(slot i).view.set]{q} f
/-- The device's block of `x`, untouched in HBM. -/
def xPts (c : Dev nD) : sProp 𝕄 := ((c : Thread nD τ).loc main_arg0) ↦{fullShare} m ((c : Thread nD τ).loc main_arg0)
/-- The VMEM buffer of the block. -/
def vPts (c : Dev nD) (f : Buf (Elt F) ((c : Thread nD τ).loc cc0_scratch0)) : sProp 𝕄 := ((c : Thread nD τ).loc cc0_scratch0) ↦{fullShare} f

instance slotPts_storable (c : Dev nD) (i q f) : BI.Storable (upEmb : UEmb _ 𝕄) (slotPts (F := F) c i q f) := by unfold slotPts; infer_instance
instance xPts_storable (c : Dev nD) : BI.Storable (upEmb : UEmb _ 𝕄) (xPts (F := F) m c) := by unfold xPts; infer_instance
instance vPts_storable (c : Dev nD) (f) : BI.Storable (upEmb : UEmb _ 𝕄) (vPts (F := F) c f) := by unfold vPts; infer_instance

/-- What a device lends the one that signals it at distance `j + 1`'s reverse: its slot `j` and that its receive cell `j`
    has reached round 0. -/
def lend (c : Dev nD) (j : Fin 15) : sProp 𝕄 := iprop((∃ f, slotPts (F := F) c j.castSucc fullShare f) ∗ reached ER (recvCell c j) 0)

/-- What a duty of the cell of a role on device `c` hands over. A barrier duty `d` comes from the device `d + 1` places
    before `c` and hands over that device's slot for `c`'s copy; the load hands back `x` and the loaded buffer; a send
    hands back its share of slot 15; a receive hands over its filled slot. -/
def payOf (c : Dev nD) (d : Fin 15) : Role → sProp 𝕄
  | .inl _ => lend (peer c d.rev) d.rev
  | .inr (.inl _) => iprop(xPts m c ∗ vPts c (m ((c : Thread nD τ).loc main_arg0)))
  | .inr (.inr (.inl j)) => slotPts c 15 (shareTok fullShare 15 j) (gath m c)
  | .inr (.inr (.inr j)) => slotPts c j.castSucc fullShare (gath m c)

/-- The duties of a role's one round. -/
def dutiesOf : Role → Finset (Fin 15)
  | .inl _ => Finset.univ
  | .inr _ => {0}
/-- The units of a role's duty. -/
def amountOf : Role → ℕ
  | .inl _ => 1
  | .inr (.inl _) => NL
  | .inr (.inr _) => N

theorem amountOf_pos (k : Role) : 0 < amountOf k := by
  match k with
  | .inl _ => exact Nat.one_pos
  | .inr (.inl _) => exact NL_pos
  | .inr (.inr _) => exact N_pos

/-- The schedule: one round, by role, on the TensorCores' cells. -/
def rd : Rounds.Schedule (GSem nD τ sig) (Fin 15) 𝕄 where
  duties g r := if r = 0 ∧ g.1.2 = .tc then (roleOf g.2).elim ∅ dutiesOf else ∅
  unitless _ := False
  amount g _ _ := (roleOf g.2).elim 1 amountOf
  payload g _ d := (roleOf g.2).elim iprop(emp) (payOf m g.1.1 d)
  amount_pos g _ _ _ := by
    rcases roleOf g.2 with _ | k
    · exact Nat.one_pos
    · exact amountOf_pos k

instance payOf_storable (c : Dev nD) (d : Fin 15) (k : Role) : BI.Storable (upEmb : UEmb _ 𝕄) (payOf (F := F) m c d k) := by
  rcases k with _ | _ | _ | _ <;> unfold payOf <;> (try unfold lend) <;> infer_instance

instance rd_payload_storable (g : GSem nD τ sig) (r : ℕ) (d : Fin 15) : BI.Storable (upEmb : UEmb _ 𝕄) ((rd (F := F) m).payload g r d) := by
  show BI.Storable upEmb ((roleOf g.2).elim iprop(emp) (payOf m g.1.1 d))
  rcases roleOf g.2 with _ | k <;> dsimp only [Option.elim] <;> infer_instance

/-- The schedule at a role's cell. -/
theorem duties_at (c : Dev nD) (k : Role) : (rd (F := F) m).duties (kcell (c, k)) 0 = dutiesOf k := by
  dsimp only [rd]; rw [if_pos ⟨rfl, rfl⟩, roleOf_csem]; rfl
theorem duties_later (g : GSem nD τ sig) : ∀ r, 1 ≤ r → (rd (F := F) m).duties g r = ∅ :=
  fun r hr => by dsimp only [rd]; rw [if_neg fun h => by omega]
theorem amount_at (c : Dev nD) (k : Role) (d : Fin 15) : (rd (F := F) m).amount (kcell (c, k)) 0 d = amountOf k := by
  dsimp only [rd]; rw [roleOf_csem]; rfl
theorem payload_at (c : Dev nD) (k : Role) (d : Fin 15) : (rd (F := F) m).payload (kcell (c, k)) 0 d = payOf m c d k := by
  dsimp only [rd]; rw [roleOf_csem]; rfl

/-- A barrier expects fifteen units; -/
theorem expect_bar (c : Dev nD) : (rd (F := F) m).expect (barCell c) 0 = 15 := by
  unfold Schedule.expect Schedule.amountOf
  rw [show barCell c = kcell (c, Role.bar) from rfl, duties_at, Finset.sum_congr rfl fun d _ => amount_at m c Role.bar d]
  rfl
/-- any other cell the units of its one duty. -/
theorem expect_own (c : Dev nD) (k : Own) : (rd (F := F) m).expect (kcell (c, .inr k)) 0 = amountOf (.inr k) := by
  unfold Schedule.expect Schedule.amountOf
  rw [duties_at, Finset.sum_congr rfl fun d _ => amount_at m c (.inr k) d]
  exact Finset.sum_singleton _ _

/-- A barrier's round hands over the fifteen devices' slots; -/
theorem rest_bar (c : Dev nD) : bigSep ((rd (F := F) m).duties (barCell c) 0 \ ∅) (fun d => (rd (F := F) m).payload (barCell c) 0 d)
    = bigSep Finset.univ fun j : Fin 15 => lend (peer c j) j := by
  rw [Finset.sdiff_empty, show barCell c = kcell (c, Role.bar) from rfl, duties_at,
    bigSep_congr fun d _ => payload_at m c Role.bar d, bigSep_univ_equiv Fin.revPerm]
  exact bigSep_congr fun d _ => by simp [payOf]
/-- any other cell's what its one duty hands over. -/
theorem rest_own (c : Dev nD) (k : Own) : bigSep ((rd (F := F) m).duties (kcell (c, .inr k)) 0 \ ∅) (fun d => (rd (F := F) m).payload (kcell (c, .inr k)) 0 d)
    = payOf m c 0 (.inr k) := by
  rw [Finset.sdiff_empty, duties_at, show dutiesOf (.inr k) = {0} from rfl, bigSep_singleton, payload_at]

/-! ## What a device owes, and the levels -/

/-- The receive credits device `c` owes for the copies in `l`; -/
def oweRecv (c : Dev nD) (l : List (Fin 15)) : CellTallies nD τ sig Unit := (l.map fun j => tallyAt (recvCell (peer c j) j) () N).sum
/-- the barrier units for the signals in `l`. -/
def oweBar (c : Dev nD) (l : List (Fin 15)) : CellTallies nD τ sig Unit := (l.map fun j => tallyAt (barCell (peer c j)) () 1).sum
/-- What device `c` owes at launch. -/
def O₀ (c : Dev nD) : CellTallies nD τ sig Unit := oweRecv c dists + oweBar c dists

theorem oweRecv_cons (c : Dev nD) (j : Fin 15) (l : List (Fin 15)) :
    oweRecv c (j :: l) = oweRecv c l + tallyAt (recvCell (peer c j) j) () N := by
  unfold oweRecv; rw [List.map_cons, List.sum_cons, add_comm]
theorem oweBar_cons (c : Dev nD) (j : Fin 15) (l : List (Fin 15)) :
    oweRecv c dists + oweBar c (j :: l) = (oweRecv c dists + oweBar c l) + tallyAt (barCell (peer c j)) () 1 := by
  unfold oweBar; rw [List.map_cons, List.sum_cons, add_comm (tallyAt _ _ _), add_assoc]

/-- Only TensorCore cells carry a credit. -/
def L (g : GSem nD τ sig) : Finset Unit := if g.1.2 = .tc then {()} else ∅
/-- The level of a role: barriers 1, receives 2, the rest 0. -/
def levelOf : Role → ℕ
  | .inl _ => 1
  | .inr (.inr (.inr _)) => 2
  | .inr _ => 0
def lv (g : GSem nD τ sig) (_ : Unit) : ℕ := (roleOf g.2).elim 0 levelOf

theorem lv_at (c : Dev nD) (k : Role) : lv (kcell (c, k)) () = levelOf k := by unfold lv; rw [roleOf_csem]; rfl
theorem L_of_ne (g : GSem nD τ sig) (h : g.1.2 ≠ .tc) : L g = ∅ := if_neg h
theorem L_tc (c : Dev nD) (sm : SemLoc sig) : L ((c : Thread nD τ), sm) = {()} := if_pos rfl

/-- A sum of single tallies is positive only where one of them is. -/
theorem pos_of_sum {I : Type} (g' : I → GSem nD τ sig) (n : ℕ) (l : List I) {g : GSem nD τ sig} {u : Unit}
    (h : 0 < (l.map fun j => (tallyAt (g' j) () n : CellTallies nD τ sig Unit)).sum g u) : ∃ j, g = g' j := by
  induction l with
  | nil => exact absurd h (Nat.lt_irrefl 0)
  | cons j l ih =>
    rw [List.map_cons, List.sum_cons, Pi.add_apply, Finsupp.add_apply, tallyAt_apply] at h
    by_cases hj : g = g' j ∧ u = ()
    · exact ⟨j, hj.1⟩
    · rw [if_neg hj, Nat.zero_add] at h; exact ih h

/-- A device that owes receive credits may wait on any cell of a lower level than 2; -/
theorem mayWait_recv (c : Dev nD) (l : List (Fin 15)) (sm : SemLoc sig) (h : (roleOf sm).elim 0 levelOf ≤ 1) :
    (levAts L lv : sProp 𝕄) ⊢ MayWait (c : Thread nD τ) sm () (oweRecv c l) :=
  MayOwe.of_cut (L := L) (lev := lv) 1 (fun p hp => by rw [Finset.mem_singleton.mp hp, L_tc]; exact Finset.mem_singleton_self _)
    (fun g u hg => by obtain ⟨j, rfl⟩ := pos_of_sum _ _ _ hg; rw [L_tc]; exact Finset.mem_singleton_self _)
    (fun p hp => by rw [Finset.mem_singleton.mp hp]; exact h)
    (fun g u hg => by
      obtain ⟨j, rfl⟩ := pos_of_sum _ _ _ hg
      rw [show lv (recvCell (peer c j) j) u = 2 from lv_at (peer c j) (Role.recv j)]; decide)

/-- and one that owes all it owes at launch, or nothing, on any cell of level 0. -/
theorem mayWait_stage (c : Dev nD) (sm : SemLoc sig) (h : (roleOf sm).elim 0 levelOf = 0) (O : CellTallies nD τ sig Unit) (hO : O = O₀ c ∨ O = 0) :
    (levAts L lv : sProp 𝕄) ⊢ MayWait (c : Thread nD τ) sm () O := by
  rcases hO with rfl | rfl
  · have key : ∀ g u, 0 < O₀ c g u → (∃ j, g = recvCell (peer c j) j) ∨ ∃ j, g = barCell (peer c j) := fun g u hg => by
      unfold O₀ at hg
      rw [Pi.add_apply, Finsupp.add_apply] at hg
      rcases Nat.eq_zero_or_pos (oweRecv c dists g u) with h0 | h0
      · rw [h0, Nat.zero_add] at hg; exact .inr (pos_of_sum _ _ _ hg)
      · exact .inl (pos_of_sum _ _ _ h0)
    exact MayOwe.of_cut (L := L) (lev := lv) 0 (fun p hp => by rw [Finset.mem_singleton.mp hp, L_tc]; exact Finset.mem_singleton_self _)
      (fun g u hg => by rcases key g u hg with ⟨j, rfl⟩ | ⟨j, rfl⟩ <;> (rw [L_tc]; exact Finset.mem_singleton_self _))
      (fun p hp => by rw [Finset.mem_singleton.mp hp]; exact h.le)
      (fun g u hg => by
        rcases key g u hg with ⟨j, rfl⟩ | ⟨j, rfl⟩
        · rw [show lv (recvCell (peer c j) j) u = 2 from lv_at (peer c j) (Role.recv j)]; decide
        · rw [show lv (barCell (peer c j)) u = 1 from lv_at (peer c j) Role.bar]; decide)
  · rw [MayWait_zero]; iintro -; iempintro

end Cert.Mesh16

end
-- ==== Proof.Steps.lean ====
/-
One step of each of the kernel's four loops, and the rule that runs a loop from its step.

A step at distance `j + 1` is stated for every `j` at once: the signal to the peer, the copy to the peer, the wait for the
slot the peer at the reverse distance fills, and the wait for the copy to have left.
-/
module

public import proofs.«01_k».proof.Proof.Schedule

@[expose] public section

noncomputable section

namespace Cert.Mesh16

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The kernel's programs on device `c`, run to the postcondition `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The loop rule -/

/-- A loop over distinct distances: each step turns its own `Pre j` and the shared state before it into `Post j` and the
    shared state after it, so the loop turns all the `Pre`s into all the `Post`s. -/
theorem runs_list (c : Dev nD) (f : Fin 15 → Prog (TpuEff nD τ sig (Elt F) Λ₀ .tc) PUnit) (R : sProp 𝕄) [BI.Persistent R]
    (Pre Post : Fin 15 → sProp 𝕄) (S : List (Fin 15) → sProp 𝕄)
    (h : ∀ j js, iprop(R ∗ Pre j ∗ S (j :: js)) ⊢ runs c (f j) (fun _ => iprop(Post j ∗ S js))) :
    ∀ l : List (Fin 15), l.Nodup →
      iprop(R ∗ bigSep l.toFinset Pre ∗ S l) ⊢ runs c (each f l) (fun _ => iprop(bigSep l.toFinset Post ∗ S [])) := by
  intro l
  induction l with
  | nil =>
    intro _
    unfold runs each
    rw [wp_ret]
    iintro ⟨-, H1, H2⟩
    imodintro
    isplitl [H1]
    · rw [List.toFinset_nil, show (bigSep (∅ : Finset (Fin 15)) Post : sProp 𝕄) = iprop(emp) from rfl]; iempintro
    iexact H2
  | cons j js ih =>
    intro hn
    have hj : j ∉ js.toFinset := fun hm => (List.nodup_cons.mp hn).1 (List.mem_toFinset.mp hm)
    have hins (Φ : Fin 15 → sProp 𝕄) : bigSep (insert j js.toFinset) Φ = iprop(Φ j ∗ bigSep js.toFinset Φ) := bigSep_insert hj
    rw [List.toFinset_cons, hins, hins]
    unfold runs each
    rw [wp_bind]
    iintro ⟨#HR, ⟨Hj, Hjs⟩, HS⟩
    ihave H := (h j js) $$ [Hj HS]
    · isplitr; · iexact HR
      isplitl [Hj] <;> iassumption
    iapply (wp_wand (Q := fun _ => iprop(Post j ∗ S js)) frame _ Set.univ) $$ H
    iintro %_ ⟨Hp, HS⟩
    ihave H := (ih (List.nodup_cons.mp hn).2) $$ [Hjs HS]
    · isplitr; · iexact HR
      isplitl [Hjs] <;> iassumption
    iapply (wp_wand (Q := fun _ => iprop(bigSep js.toFinset Post ∗ S [])) frame _ Set.univ) $$ H
    iintro %_ ⟨Hps, HS⟩
    isplitl [Hp Hps]
    · isplitl [Hp] <;> iassumption
    iexact HS

/-- The loop over the fifteen distances, at the head of a program. -/
theorem runs_each (c : Dev nD) (f : Fin 15 → Prog (TpuEff nD τ sig (Elt F) Λ₀ .tc) PUnit) (R : sProp 𝕄) [BI.Persistent R]
    (Pre Post : Fin 15 → sProp 𝕄) (S : List (Fin 15) → sProp 𝕄)
    (h : ∀ j js, iprop(R ∗ Pre j ∗ S (j :: js)) ⊢ runs c (f j) (fun _ => iprop(Post j ∗ S js))) (Q : PUnit → sProp 𝕄) :
    iprop(R ∗ bigSep Finset.univ Pre ∗ S dists)
      ⊢ iprop(((bigSep Finset.univ Post ∗ S []) -∗ Q ⟨⟩) -∗ runs c (each f dists) Q) := by
  iintro H Hk
  ihave H := (Entails.of_eq (by rw [dists_univ]) |>.trans (runs_list c f R Pre Post S h dists dists_nodup)) $$ H
  iapply (wp_wand (Q := fun _ => iprop(bigSep dists.toFinset Post ∗ S [])) frame _ Set.univ) $$ H
  iintro %_ H
  rw [dists_univ]
  iapply Hk
  iexact H

/-! ## The records every device keeps -/

/-- Every cell's invariant, under the names `K`; -/
def invs (K : Dev nD × Role → ℕ) : sProp 𝕄 := bigSep Finset.univ fun ck : Dev nD × Role => cellInv ER (rd m) (K ck) (kcell ck)
/-- that every cell has reached round 0. -/
def marks : sProp 𝕄 := bigSep Finset.univ fun ck : Dev nD × Role => reached ER (kcell ck) 0
def records (K : Dev nD × Role → ℕ) : sProp 𝕄 := iprop(invs m K ∗ marks)

instance records_persistent (K : Dev nD × Role → ℕ) : BI.Persistent (records (F := F) m K) := by unfold records invs marks; infer_instance

theorem inv_at (K : Dev nD × Role → ℕ) (ck : Dev nD × Role) : records (F := F) m K ⊢ cellInv ER (rd m) (K ck) (kcell ck) :=
  sep_elim_left.trans (bigSep_elim (Finset.mem_univ ck))
theorem mark_at (K : Dev nD × Role → ℕ) (ck : Dev nD × Role) : records (F := F) m K ⊢ reached ER (kcell ck) 0 :=
  sep_elim_right.trans (bigSep_elim (Finset.mem_univ ck))

variable (K : Dev nD × Role → ℕ)

/-! ## The steps -/

/-- The signal to the peer at distance `j + 1`, lending it this device's slot for its copy. -/
theorem signal_step (c : Dev nD) (W : Waits sig Unit) (j : Fin 15) (js : List (Fin 15)) :
    iprop(records m K ∗ (dutyTok ER (barCell (peer c j)) 0 j ∗ ∃ f, slotPts c j.rev.castSucc fullShare f)
        ∗ owes (c : Thread nD τ) (oweRecv c dists + oweBar c (j :: js)) W)
      ⊢ runs c (signalStep (sigDev c j)) (fun _ => iprop(emp ∗ owes (c : Thread nD τ) (oweRecv c dists + oweBar c js) W)) := by
  unfold runs signalStep semSignalWord
  rw [sigDev_eq c j]
  iintro ⟨#HR, ⟨Ht, Hs⟩, HO⟩
  iapply (Rounds.wp_signal 𝒱₀ ER (rd m) (c : Thread nD τ) none (dst := (peer c j : Thread nD τ)) (κ := K (peer c j, Role.bar))
      (d := j) (by rw [show ((peer c j : Thread nD τ), SemLoc.reg barS) = kcell (peer c j, Role.bar) from rfl, duties_at]; exact Finset.mem_univ _)
      ((amount_at m (peer c j) Role.bar j).trans (by decide)) () (oweRecv c dists + oweBar c js) (oweBar_cons c j js)) $$ [HO Ht Hs]
  · isplitr; · iapply (inv_at m K (peer c j, Role.bar)); iexact HR
    isplitl [HO]; · iexact HO
    isplitl [Ht]; · iexact Ht
    isplitl [Hs]
    · rw [show ((peer c j : Thread nD τ), SemLoc.reg barS) = kcell (peer c j, Role.bar) from rfl, payload_at]
      unfold payOf lend; rw [peer_rev]
      isplitl [Hs]; · iexact Hs
      iapply (mark_at m K (c, Role.recv j.rev)); iexact HR
    · iapply (mark_at m K (peer c j, Role.bar)); iexact HR
  iintro HO
  rw [wp_ret]; imodintro
  isplitr; · iempintro
  iexact HO

/-- The copy of this device's pair into slot `j` of the peer at distance `j + 1`. -/
theorem send_step (c : Dev nD) (W : Waits sig Unit) (j : Fin 15) (js : List (Fin 15)) :
    iprop(records m K ∗ (lend (peer c j) j ∗ slotPts c 15 (shareTok fullShare 15 j) (gath m c)
          ∗ dutyTok ER (sendCell c j) 0 0 ∗ dutyTok ER (recvCell (peer c j) j) 0 0)
        ∗ owes (c : Thread nD τ) (oweRecv c (j :: js)) W)
      ⊢ runs c (sendStep (dstDev c j) j) (fun _ => iprop(cred (tallyAt (sendCell c j) () N) ∗ owes (c : Thread nD τ) (oweRecv c js) W)) := by
  unfold runs sendStep Prog.lift lend slotPts
  rw [dstDev_eq c j]
  iintro ⟨#HR, ⟨⟨⟨%fn, Hd⟩, #Hr⟩, Hs, HtS, HtR⟩, HO⟩
  have hS : (0 : Fin 15) ∈ (rd (F := F) m).duties (sendCell c j) 0 := (duties_at m c (Role.send j)).symm ▸ Finset.mem_singleton_self _
  have hV : (0 : Fin 15) ∈ (rd (F := F) m).duties (recvCell (peer c j) j) 0 := (duties_at m (peer c j) (Role.recv j)).symm ▸ Finset.mem_singleton_self _
  iapply (Rounds.wp_send_pointsTo 𝒱₀ ER (rd m) (c : Thread nD τ) none (κ₁ := K (c, Role.send j)) (κ₂ := K (peer c j, Role.recv j))
    (c' := (peer c j : Thread nD τ)) (src := slot 15) (dst := (slot j.castSucc : Memref sig .tc .vmem S2x512 .f32)) (sem := .dma (recvS j)) (sS := .dma (sendS j))
    (r₁ := 0) (r₂ := 0) (d₁ := 0) (d₂ := 0) (fd := fn) hS hV
    () () N (slot_credit _) (amount_at m c (Role.send j) 0) (amount_at m (peer c j) (Role.recv j) 0) (oweRecv c js) (oweRecv_cons c j js) (W := W)
    (Entails.of_eq (payload_at m c (Role.send j) 0).symm)
    ((Entails.of_eq (pointsTo_congr fun i hi => copy_written m c j fn i hi)).trans (Entails.of_eq (payload_at m (peer c j) (Role.recv j) 0).symm))) $$ [Hs Hd HO HtS HtR]
  · isplitr; · iapply (inv_at m K (c, Role.send j)); iexact HR
    isplitr; · iapply (inv_at m K (peer c j, Role.recv j)); iexact HR
    isplitl [Hs]; · iexact Hs
    isplitl [Hd]; · iexact Hd
    isplitl [HO]; · iexact HO
    isplitl [HtS]; · iexact HtS
    isplitr; · iapply (mark_at m K (c, Role.send j)); iexact HR
    isplitl [HtR]; · iexact HtR
    iapply (mark_at m K (peer c j, Role.recv j)); iexact HR
  iintro ⟨HcS, HO⟩
  rw [wp_ret]; imodintro
  isplitl [HcS] <;> iassumption

/-- A wait on one of the device's own copy cells when it owes nothing: what the copy hands over, and the cell closed at zero. -/
theorem wait_own (c : Dev nD) (k : Fin 15 ⊕ Fin 15) (q : DmaSem sig) (hq : osem (.inr k) = .dma q) {sp : Space}
    (src : Memref sig .tc sp S2x512 .f32) (i : Fin 16) (hs hd) :
    iprop(records m K ∗ (cred (tallyAt (kcell (c, .inr (.inr k))) () N) ∗ atPos ER (kcell (c, .inr (.inr k))) 0 ∅ 0)
        ∗ ∃ W, owes (c : Thread nD τ) 0 W)
      ⊢ runs (F := F) c (Prog.lift (.waitDma2 q src (slot i) hs hd))
          (fun _ => iprop((semVal (kcell (c, .inr (.inr k))) 0 ∗ payOf m c 0 (.inr (.inr k))) ∗ ∃ W, owes (c : Thread nD τ) 0 W)) := by
  unfold runs Prog.lift
  have hcell : kcell (c, .inr (.inr k)) = ((c : Thread nD τ), SemLoc.dma q) := by
    show ((c : Thread nD τ), osem (.inr k)) = _
    rw [hq]
  iintro ⟨#HR, ⟨Hc, Hat⟩, ⟨%W, HO⟩⟩
  ihave #HI := (inv_at m K (c, .inr (.inr k))) $$ HR
  have hexp := expect_own m c (.inr k)
  have hrest := rest_own m c (.inr k)
  rw [hcell] at *
  iapply (Rounds.wp_wait_rest_token 𝒱₀ ER (rd m) (c : Thread nD τ) none (κ := K (c, .inr (.inr k)))
      (wpE_waitDma2_eq 𝒱₀ (c : Thread nD τ) none Set.univ) (Set.mem_univ _) () (O := 0) (W := W) (R := 0) (m := 0) (T := ∅)
      (by rw [Nat.zero_add, hexp]; exact slot_credit i)) $$ [Hc HO Hat]
  · isplitr; · iexact HI
    isplitl [Hc]; · rw [slot_credit]; iexact Hc
    isplitl [HO]; · iexact HO
    isplitr; · rw [MayWait_zero]; iempintro
    iexact Hat
  iintro ⟨HO, Hat, -, Hpay⟩
  ihave Hpay := (Entails.of_eq hrest) $$ Hpay
  imod (Rounds.cell_close ER (rd m) (Set.mem_univ (K (c, .inr (.inr k)))) (fun h => h) (R := 0 + 1) (duties_later m ((c : Thread nD τ), SemLoc.dma q))) $$ [Hat] with Hz
  · isplitr; · iexact HI
    iexact Hat
  rw [wp_ret]; imodintro
  isplitl [Hz Hpay]
  · isplitl [Hz] <;> iassumption
  iexists _; iexact HO

end Cert.Mesh16

end
-- ==== Proof.Body.lean ====
/-
The kernel's body on one device, from what the launch hands it to what it leaves.

The body is run effect by effect, each of its four loops in one application of the loop rule.
-/
module

public import proofs.«01_k».proof.Proof.Steps

@[expose] public section

noncomputable section

namespace Cert.Mesh16

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## Splitting by role, by slot and by share -/

/-- A family over one index is its one member. -/
theorem bigSep_unit (Φ : Unit → sProp 𝕄) : bigSep Finset.univ Φ = Φ () := bigSep_singleton
/-- A family over the scoped roles: the load's, the sends' and the receives'. -/
theorem bigSep_own (Φ : Own → sProp 𝕄) : bigSep Finset.univ Φ
    = iprop(Φ (.inl ()) ∗ (bigSep Finset.univ fun j => Φ (.inr (.inl j))) ∗ bigSep Finset.univ fun j => Φ (.inr (.inr j))) := by
  rw [bigSep_univ_sum, bigSep_univ_sum, bigSep_unit]; rfl
/-- A family over all roles: the barrier's beside those. -/
theorem bigSep_role (Φ : Role → sProp 𝕄) : bigSep Finset.univ Φ
    = iprop(Φ Role.bar ∗ Φ Role.load ∗ (bigSep Finset.univ fun j => Φ (Role.send j)) ∗ bigSep Finset.univ fun j => Φ (Role.recv j)) := by
  rw [bigSep_univ_sum, bigSep_own, bigSep_unit]; rfl

/-- The whole gather buffer of device `c` at contents `f`. -/
def gPts (c : Dev nD) (q : PosShare TreeShare) (f : Buf (Elt F) ((c : Thread nD τ).loc cc0_scratch1)) : sProp 𝕄 :=
  ((c : Thread nD τ).loc cc0_scratch1) ↦{q} f

/-- The gather buffer is its sixteen slots: fifteen to receive and the device's own. -/
theorem gPts_slots (c : Dev nD) (q : PosShare TreeShare) (f : Buf (Elt F) ((c : Thread nD τ).loc cc0_scratch1)) :
    gPts c q f = iprop((bigSep Finset.univ fun j : Fin 15 => slotPts c j.castSucc q f) ∗ slotPts c 15 q f) := by
  have h1 : gPts c q f = bigSep Finset.univ fun i : Fin 16 => slotPts c i q f := by
    refine (Ring.pointsTo_blocks (ℓ := (c : Thread nD τ).loc cc0_scratch1) (fun i : Fin 16 => (slotR i).set)
      slot_disjoint slot_cover f).trans (bigSep_congr fun i _ => ?_)
    unfold slotPts; rw [slot_set]
  rw [h1, Fin.univ_castSuccEmb, Finset.cons_eq_insert,
    show bigSep (insert (Fin.last 15) _) (fun i : Fin 16 => slotPts c i q f)
      = iprop(slotPts c (Fin.last 15) q f ∗ bigSep (Finset.univ.map Fin.castSuccEmb) fun i => slotPts c i q f)
      from bigSep_insert (by decide), bigSep_map]
  exact equiv_iff.mp ⟨sep_comm, sep_comm⟩

/-- The slots to receive, taken in the reverse order, each at some contents. -/
theorem slots_rev (c : Dev nD) (f : Buf (Elt F) ((c : Thread nD τ).loc cc0_scratch1)) :
    (bigSep Finset.univ fun j : Fin 15 => slotPts c j.castSucc fullShare f : sProp 𝕄)
      ⊢ bigSep Finset.univ fun j : Fin 15 => iprop(∃ f, slotPts c j.rev.castSucc fullShare f) :=
  (Entails.of_eq (bigSep_univ_equiv Fin.revPerm (fun j : Fin 15 => slotPts c j.castSucc fullShare f))).trans
    (bigSep_mono fun j _ => show slotPts c j.rev.castSucc fullShare f ⊢ iprop(∃ f, slotPts c j.rev.castSucc fullShare f) by
      iintro H; iexists f; iexact H)

/-- The fifteen shares of a slot that the fifteen copies read. -/
def lent (c : Dev nD) (i : Fin 16) (f : Buf (Elt F) ((c : Thread nD τ).loc cc0_scratch1)) : sProp 𝕄 :=
  bigSep Finset.univ fun j : Fin 15 => slotPts c i (shareTok fullShare 15 j) f

/-- A slot is what stays for the device's own loads and those shares. -/
theorem slot_shares (c : Dev nD) (i : Fin 16) (f : Buf (Elt F) ((c : Thread nD τ).loc cc0_scratch1)) :
    slotPts c i fullShare f = iprop(slotPts c i (shareDrop fullShare 15) f ∗ lent c i f) := by
  unfold lent slotPts
  exact equiv_iff.mp ⟨(Transfers.pointsTo_toks fullShare 15).1, (Transfers.pointsTo_toks fullShare 15).2⟩

/-- The same for the fifteen slots to receive. -/
theorem slots_shares (c : Dev nD) (f : Buf (Elt F) ((c : Thread nD τ).loc cc0_scratch1)) :
    (bigSep Finset.univ fun j : Fin 15 => slotPts c j.castSucc fullShare f : sProp 𝕄)
      = iprop((bigSep Finset.univ fun j : Fin 15 => slotPts c j.castSucc (shareDrop fullShare 15) f) ∗ bigSep Finset.univ fun j : Fin 15 => lent c j.castSucc f) := by
  rw [← bigSep_sep']
  exact bigSep_congr fun j _ => slot_shares c j.castSucc f

/-! ## Before and after -/

/-- The tokens of the duties device `c` pays. -/
def payToks (c : Dev nD) : sProp 𝕄 :=
  iprop((bigSep Finset.univ fun j : Fin 15 => dutyTok ER (barCell (peer c j)) 0 j) ∗ dutyTok ER (loadCell c) 0 0
    ∗ (bigSep Finset.univ fun j : Fin 15 => dutyTok ER (sendCell c j) 0 0) ∗ bigSep Finset.univ fun j : Fin 15 => dutyTok ER (recvCell (peer c j) j) 0 0)

/-- The ghost state device `c` starts from: the records, its positions, its tokens. -/
def ghost (K : Dev nD × Role → ℕ) (c : Dev nD) : sProp 𝕄 :=
  iprop(records m K ∗ (bigSep Finset.univ fun k : Role => atPos ER (kcell (c, k)) 0 ∅ 0) ∗ payToks c)

/-- What device `c`'s body starts from beside its scoped buffers: that at some names, its credits, the levels, and `x`. -/
def start (c : Dev nD) : sProp 𝕄 :=
  iprop((∃ K, ghost m K c) ∗ (cred (tallyAt (barCell c) () 15) ∗ bigSep Finset.univ fun j : Fin 15 => cred (tallyAt (recvCell c j) () N))
    ∗ levAts L lv ∗ xPts m c)

def Φ₀ (c : Dev nD) : sProp 𝕄 := iprop(start m c ∗ (∃ f, vPts c f) ∗ ∃ f, gPts c fullShare f)
/-- What it leaves: its two scratch buffers, its scoped semaphores at zero, its barrier at zero, and `x` as it was. -/
def Φ₁ (c : Dev nD) : sProp 𝕄 :=
  iprop((∃ f, vPts c f) ∗ (∃ f, gPts c fullShare f) ∗ (bigSep Finset.univ fun k : Own => semVal (kcell (c, .inr k)) 0)
    ∗ semVal (barCell c) 0 ∗ xPts m c)

def dats (_ : Fin 1) (c : Dev nD) : Dat τ (Elt F) Unit ℕ UU ℕ cfg0 c where
  A w := m ((cfg0.win w).arr.view.loc (c : Thread nD τ))
  after w _ := match w with
    | ⟨0, _⟩ => result m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The whole-buffer accesses -/

theorem zero2 : (![0, 0] : Fin 2 → Nat) = fun _ => 0 := funext fun a => by fin_cases a <;> rfl

/-- Loading all of the block's buffer reads its contents. -/
theorem read_v (f : (cc0_scratch0 : Ref sig .tc).ty.Contents (Elt F)) : (vM : Memref sig .tc .vmem S1024x512 .f32).view.readAt (Elt F) xR.toLoadRect f = f :=
  Memref.readAt_unit_zero (Elt F) cc0_scratch0 zero2 _ f
/-- Storing all of the result's buffer leaves what was stored. -/
theorem write_o (f w : (cc0_stg0_0 : Ref sig .tc).ty.Contents (Elt F)) :
    ((oM : Memref sig .tc .vmem S2x512 .f32).access oR : View sig .tc _ _ _).write (Elt F) f w Finset.univ = w :=
  Memref.write_access_unit_zero_univ (Elt F) cc0_stg0_0 zero2 _ f w
/-- Copying `x` into the block's buffer leaves `x`'s contents. -/
theorem copy_x (f : (cc0_scratch0 : Ref sig .tc).ty.Contents (Elt F)) (g : (main_arg0 : Ref sig .tc).ty.Contents (Elt F)) :
    (vM : Memref sig .tc .vmem S1024x512 .f32).view.write (Elt F) f ((xM : Memref sig .tc .hbm S1024x512 .f32).view.read (Elt F) g) Finset.univ = g := by
  show (View.whole cc0_scratch0).write (Elt F) f ((View.whole main_arg0).read (Elt F) g) Finset.univ = g
  rw [View.read_whole]
  exact View.write_whole_univ _ _ _

/-- Slot 15's rectangle accesses only the elements of slot 15. -/
theorem own_load_sub : (gM : Memref sig .tc .vmem S16x2x512 .f32).view.setOn (slotR 15).toLoadRect.set ⊆ (slot 15).view.set := by
  intro i hi
  rw [slot_set]
  obtain ⟨x, hx, rfl⟩ := Finset.mem_map.mp hi
  exact hx
theorem own_store_sub : ((gM : Memref sig .tc .vmem S16x2x512 .f32).access (slotR 15) : View sig .tc _ _ _).setOn Finset.univ ⊆ (slot 15).view.set := by
  rw [slot_set, View.setOn_univ]
  exact subset_of_eq (View.set_slice_whole _ _)
/-- The pair stored through slot 15's rectangle leaves slot 15 at the gathered array. -/
theorem own_stored (c : Dev nD) (f : Buf (Elt F) ((c : Thread nD τ).loc cc0_scratch1)) :
    (((gM : Memref sig .tc .vmem S16x2x512 .f32).access (slotR 15) : View sig .tc _ _ _).loc (c : Thread nD τ) ↦[(slot 15).view.set]{fullShare}
        ((gM : Memref sig .tc .vmem S16x2x512 .f32).access (slotR 15) : View sig .tc _ _ _).write (Elt F) f
          (k0_pay4 (k0_pay2 (m ((c : Thread nD τ).loc main_arg0))) (k0_pay3 (devWord c) (m ((c : Thread nD τ).loc main_arg0)))) Finset.univ : sProp 𝕄)
      = slotPts c 15 fullShare (gath m c) := by
  unfold slotPts
  exact pointsTo_congr fun i hi => own_written m c f i (slot_set 15 ▸ hi)

/-- `x` and the block's buffer as the copy between them names them. -/
theorem xPts_eq (c : Dev nD) : xPts m c = ((xM : Memref sig .tc .hbm S1024x512 .f32).view.loc (c : Thread nD τ)
    ↦[(xM : Memref sig .tc .hbm S1024x512 .f32).view.set]{fullShare} m ((c : Thread nD τ).loc main_arg0) : sProp 𝕄) := by
  unfold xPts; rw [View.set_whole]
theorem vPts_eq (c : Dev nD) (f : Buf (Elt F) ((c : Thread nD τ).loc cc0_scratch0)) : vPts c f = ((vM : Memref sig .tc .vmem S1024x512 .f32).view.loc (c : Thread nD τ)
    ↦[(vM : Memref sig .tc .vmem S1024x512 .f32).view.set]{fullShare} f : sProp 𝕄) := by
  unfold vPts; rw [View.set_whole]

variable (K : Dev nD × Role → ℕ)

/-- The load of `x`: the copy started and waited for, leaving `x` as it was and its contents in the block's buffer. -/
theorem load_x (c : Dev nD) (f : Buf (Elt F) ((c : Thread nD τ).loc cc0_scratch0)) (W : Waits sig Unit) {h1 h2 h3 h4 h5}
    {α : Type} (k : PUnit → Prog (TpuEff nD τ sig (Elt F) Λ₀ .tc) α) (Q : α → sProp 𝕄) :
    iprop(records m K ∗ levAts L lv ∗ xPts m c ∗ vPts c f ∗ dutyTok ER (loadCell c) 0 0 ∗ atPos ER (loadCell c) 0 ∅ 0
        ∗ owes (c : Thread nD τ) (oweRecv c dists) W)
      ⊢ iprop(((semVal (loadCell c) 0 ∗ (xPts m c ∗ vPts c (m ((c : Thread nD τ).loc main_arg0))) ∗ ∃ W, owes (c : Thread nD τ) (oweRecv c dists) W) -∗ runs c (k ⟨⟩) Q)
        -∗ runs c (.op (.enqueueDma xM (.here vM) (.dma loadS) h1 h2 h3) fun _ => .op (.waitDma2 loadS xM vM h4 h5) k) Q) := by
  have hd : (0 : Fin 15) ∈ (rd (F := F) m).duties (loadCell c) 0 := (duties_at m c Role.load).symm ▸ Finset.mem_singleton_self _
  have hrest := (rest_own m c (.inl ())).trans (show _ = iprop(xPts m c ∗ vPts c (m ((c : Thread nD τ).loc main_arg0))) from rfl)
  have hpay : iprop(((vM : Memref sig .tc .vmem S1024x512 .f32).view.loc (c : Thread nD τ) ↦[(vM : Memref sig .tc .vmem S1024x512 .f32).view.set]{fullShare}
          (vM : Memref sig .tc .vmem S1024x512 .f32).view.write (Elt F) f ((xM : Memref sig .tc .hbm S1024x512 .f32).view.read (Elt F) (m ((c : Thread nD τ).loc main_arg0))) Finset.univ)
        ∗ (xM : Memref sig .tc .hbm S1024x512 .f32).view.loc (c : Thread nD τ) ↦[(xM : Memref sig .tc .hbm S1024x512 .f32).view.set]{fullShare} m ((c : Thread nD τ).loc main_arg0))
      ⊢ (rd (F := F) m).payload (loadCell c) 0 0 := by
    rw [copy_x, ← xPts_eq, ← vPts_eq]
    exact sep_comm.trans (Entails.of_eq (payload_at m c Role.load 0).symm)
  unfold runs
  iintro ⟨#HR, #Hlev, Hx, Hv, Ht, Hat, HO⟩ Hk
  ihave #HI := (inv_at m K (c, Role.load)) $$ HR
  ihave Hx := (Entails.of_eq (xPts_eq m c)) $$ Hx
  ihave Hv := (Entails.of_eq (vPts_eq c f)) $$ Hv
  iapply (Rounds.wp_copy_pointsTo 𝒱₀ ER (rd m) (c : Thread nD τ) none (src := xM) (dst := vM) (sem := .dma loadS) (κ := K (c, Role.load))
      (q := fullShare) (fs := m ((c : Thread nD τ).loc main_arg0)) (fd := f) (r := 0) (d := 0) hd () NL load_credit (amount_at m c Role.load 0) hpay) $$ [Hx Hv Ht]
  · isplitr; · iexact HI
    isplitl [Hx]; · iexact Hx
    isplitl [Hv]; · iexact Hv
    isplitl [Ht]; · iexact Ht
    iapply (mark_at m K (c, Role.load)); iexact HR
  iintro Hc
  iapply (Rounds.wp_wait_rest_token 𝒱₀ ER (rd m) (c : Thread nD τ) none (κ := K (c, Role.load))
      (wpE_waitDma2_eq 𝒱₀ (c : Thread nD τ) none Set.univ) (Set.mem_univ _) () (O := oweRecv c dists) (W := W) (R := 0) (m := 0) (T := ∅)
      (by rw [Nat.zero_add]; exact load_credit.trans (expect_own m c (.inl ())).symm)) $$ [Hc HO Hat]
  · isplitr; · iexact HI
    isplitl [Hc]; · rw [load_credit]; iexact Hc
    isplitl [HO]; · iexact HO
    isplitr
    · iapply (mayWait_recv c dists (.dma loadS) (by decide +kernel)); iexact Hlev
    iexact Hat
  iintro ⟨HO, Hat, -, Hpay⟩
  ihave Hpay := (Entails.of_eq hrest) $$ Hpay
  imod (Rounds.cell_close ER (rd m) (Set.mem_univ (K (c, Role.load))) (fun h => h) (R := 0 + 1) (duties_later m (loadCell c))) $$ [Hat] with Hz
  · isplitr; · iexact HI
    iexact Hat
  iapply Hk
  isplitl [Hz]; · iexact Hz
  isplitl [Hpay]; · iexact Hpay
  iexists _; iexact HO

/-- A buffer of the core at contents `X`, as the pipeline hands it over. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, at names `K`, -/
def bodyPre (c : Dev nD) : sProp 𝕄 :=
  iprop((ghost m K c ∗ (cred (tallyAt (barCell c) () 15) ∗ bigSep Finset.univ fun j : Fin 15 => cred (tallyAt (recvCell c j) () N))
      ∗ levAts L lv ∗ xPts m c ∗ (∃ f, vPts c f) ∗ ∃ f, gPts c fullShare f)
    ∗ (∃ W, owes (c : Thread nD τ) (O₀ c) W) ∗ ∃ d, stg c cc0_stg0_0 d)

/-- and what it leaves. -/
def bodyPost (c : Dev nD) : sProp 𝕄 :=
  iprop(Φ₁ m c ∗ (∃ W, owes (c : Thread nD τ) 0 W) ∗ stg c cc0_stg0_0 (result m c))

set_option maxHeartbeats 1600000 in
/-- The body, run from `bodyPre`, one rule per effect or loop in program order, to `bodyPost`. -/
theorem sound_body (c : Dev nD) (Q : PUnit → sProp 𝕄) :
    iprop(bodyPre m K c ∗ (bodyPost m c -∗ Q ⟨⟩)) ⊢ runs c loopBody Q := by
  unfold runs loopBody
  simp only [semWaitWord, Prog.lift, Prog.bind_op, Prog.bind_ret, Prog.pure_eq_ret, wp_deviceId]
  unfold bodyPre ghost payToks
  rw [bigSep_role]
  iintro ⟨⟨⟨⟨#HR, ⟨HatB, HatL, HatS, HatV⟩, HtB, HtL, HtS, HtV⟩, ⟨HcB, HcV⟩, #Hlev, Hx, ⟨%fv, Hv⟩, ⟨%fg, Hg⟩⟩, ⟨%W, HO⟩, ⟨%d, %go, %hgo, Hout⟩⟩, Hk⟩
  ihave Hg := (Entails.of_eq (gPts_slots c fullShare fg)) $$ Hg
  icases Hg with ⟨Hslots, Hown⟩
  -- the signals, each lending the slot its receiver will fill
  rw [wp_bind]
  iapply (runs_each c (fun j => signalStep (sigDev c j)) (records m K) (fun j => iprop(dutyTok ER (barCell (peer c j)) 0 j ∗ ∃ f, slotPts c j.rev.castSucc fullShare f))
    (fun _ => iprop(emp)) (fun l => owes (c : Thread nD τ) (oweRecv c dists + oweBar c l) W) (signal_step m K c W)) $$ [HtB Hslots HO]
  · isplitr; · iexact HR
    isplitl [HtB Hslots]
    · rw [bigSep_sep']
      isplitl [HtB]; · iexact HtB
      iapply (slots_rev c fg); iexact Hslots
    iexact HO
  iintro ⟨-, HO⟩
  rw [show oweRecv c dists + oweBar c [] = oweRecv c dists from add_zero _]
  -- the load of `x`
  iapply (load_x m K c fv W) $$ [Hx Hv HtL HatL HO]
  · isplitr; · iexact HR
    isplitr; · iexact Hlev
    isplitl [Hx]; · iexact Hx
    isplitl [Hv]; · iexact Hv
    isplitl [HtL]; · iexact HtL
    isplitl [HatL]; · iexact HatL
    iexact HO
  iintro ⟨HzL, ⟨Hx, Hv⟩, ⟨%W1, HO⟩⟩
  unfold vPts
  iapply (wp_load 𝒱₀ (c : Thread nD τ) none Set.univ (m := vM) (Finset.subset_univ _)) $$ Hv; iintro Hv
  rw [read_v]
  -- the pair stored into the device's own slot
  unfold slotPts
  iapply (wp_load 𝒱₀ (c : Thread nD τ) none Set.univ (m := gM) (S := (slot 15).view.set) own_load_sub) $$ Hown; iintro Hown
  iapply (wp_store 𝒱₀ (c : Thread nD τ) none Set.univ (m := gM) (r := slotR 15) (Mk := Finset.univ) (S := (slot 15).view.set) own_store_sub) $$ Hown; iintro Hown
  ihave Hown := (Entails.of_eq (own_stored m c fg)) $$ Hown
  -- the barrier
  iapply (Rounds.wp_wait_rest_token 𝒱₀ ER (rd m) (c : Thread nD τ) none (κ := K (c, Role.bar))
      (wpE_semWait_eq 𝒱₀ (c : Thread nD τ) none Set.univ) (Set.mem_univ _) () (O := oweRecv c dists) (W := W1) (R := 0) (m := 0) (T := ∅)
      (by rw [expect_bar]; decide)) $$ [HcB HO HatB]
  · isplitr; · iapply (inv_at m K (c, Role.bar)); iexact HR
    isplitl [HcB]; · iexact HcB
    isplitl [HO]; · iexact HO
    isplitr; · iapply (mayWait_recv c dists (.reg barS) (by decide +kernel)); iexact Hlev
    iexact HatB
  iintro ⟨HO, HatB, -, Hlend⟩
  ihave Hlend := (Entails.of_eq (rest_bar m c)) $$ Hlend
  imod (Rounds.cell_close ER (rd m) (Set.mem_univ (K (c, Role.bar))) (fun h => h) (R := 0 + 1) (duties_later m (barCell c))) $$ [HatB] with HzB
  · isplitr; · iapply (inv_at m K (c, Role.bar)); iexact HR
    iexact HatB
  -- the copies, each reading its share of the own slot
  ihave Hown := (Entails.of_eq (slot_shares c 15 (gath m c))) $$ Hown
  icases Hown with ⟨Hown, Hlent⟩
  unfold lent
  rw [wp_bind]
  iapply (runs_each c (fun j => sendStep (dstDev c j) j) (records m K)
    (fun j => iprop(lend (peer c j) j ∗ slotPts c 15 (shareTok fullShare 15 j) (gath m c) ∗ dutyTok ER (sendCell c j) 0 0 ∗ dutyTok ER (recvCell (peer c j) j) 0 0))
    (fun j => cred (tallyAt (sendCell c j) () N)) (fun l => owes (c : Thread nD τ) (oweRecv c l) (insert (SemLoc.reg barS, ()) W1)) (send_step m K c _)) $$ [Hlend Hlent HtS HtV HO]
  · isplitr; · iexact HR
    isplitl [Hlend Hlent HtS HtV]
    · rw [bigSep_sep', bigSep_sep', bigSep_sep']
      isplitl [Hlend]; · iexact Hlend
      isplitl [Hlent]; · iexact Hlent
      isplitl [HtS] <;> iassumption
    iexact HO
  iintro ⟨HcS, HO⟩
  -- the receives, each handing over its filled slot
  rw [wp_bind]
  iapply (runs_each c recvStep (records m K)
    (fun j => iprop(cred (tallyAt (recvCell c j) () N) ∗ atPos ER (recvCell c j) 0 ∅ 0))
    (fun j => iprop(semVal (recvCell c j) 0 ∗ slotPts c j.castSucc fullShare (gath m c))) (fun _ => iprop(∃ W, owes (c : Thread nD τ) 0 W))
    (fun j _ => wait_own m K c (.inr j) (recvS j) rfl (slot 15) j.castSucc _ _)) $$ [HcV HatV HO]
  · isplitr; · iexact HR
    isplitl [HcV HatV]
    · rw [bigSep_sep']
      isplitl [HcV] <;> iassumption
    iexists _; iexact HO
  rw [bigSep_sep']
  iintro ⟨⟨HzV, Hslots⟩, ⟨%W2, HO⟩⟩
  -- the loads of every slot, at the share that no copy reads
  ihave Hslots := (Entails.of_eq (slots_shares c (gath m c))) $$ Hslots
  icases Hslots with ⟨Hslots, Hlents⟩
  ihave Hg := (Entails.of_eq (gPts_slots c (shareDrop fullShare 15) (gath m c)).symm) $$ [Hslots Hown]
  · isplitl [Hslots] <;> iassumption
  unfold gPts
  iapply (wp_load 𝒱₀ (c : Thread nD τ) none Set.univ (m := gM) (Finset.subset_univ _)) $$ Hg; iintro Hg
  iapply (wp_load 𝒱₀ (c : Thread nD τ) none Set.univ (m := gM) (Finset.subset_univ _)) $$ Hg; iintro Hg
  -- the result
  iapply (wp_load 𝒱₀ (c : Thread nD τ) none Set.univ (m := oM) (Finset.subset_univ _)) $$ Hout; iintro Hout
  iapply (wp_store 𝒱₀ (c : Thread nD τ) none Set.univ (m := oM) (r := oR) (Mk := Finset.univ) (Finset.subset_univ _)) $$ Hout; iintro Hout
  rw [write_o]
  -- the copies have left
  iapply (runs_each c drainStep (records m K)
    (fun j => iprop(cred (tallyAt (sendCell c j) () N) ∗ atPos ER (sendCell c j) 0 ∅ 0))
    (fun j => iprop(semVal (sendCell c j) 0 ∗ slotPts c 15 (shareTok fullShare 15 j) (gath m c))) (fun _ => iprop(∃ W, owes (c : Thread nD τ) 0 W))
    (fun j _ => wait_own m K c (.inl j) (sendS j) rfl (slot j.castSucc) 15 _ _)) $$ [HcS HatS HO]
  · isplitr; · iexact HR
    isplitl [HcS HatS]
    · rw [bigSep_sep']
      isplitl [HcS] <;> iassumption
    iexists _; iexact HO
  rw [bigSep_sep']
  iintro ⟨⟨HzS, Hlent⟩, HO⟩
  -- the gather buffer whole again
  ihave Hg := (show ((gM : Memref sig .tc .vmem S16x2x512 .f32).view.loc (c : Thread nD τ) ↦{shareDrop fullShare 15} gath m c : sProp 𝕄) ⊢ _
    from Entails.of_eq (gPts_slots c (shareDrop fullShare 15) (gath m c))) $$ Hg
  icases Hg with ⟨Hslots, Hown⟩
  ihave Hown := (Entails.of_eq (slot_shares c 15 (gath m c)).symm) $$ [Hown Hlent]
  · isplitl [Hown]; · iexact Hown
    unfold lent; iexact Hlent
  ihave Hslots := (Entails.of_eq (slots_shares c (gath m c)).symm) $$ [Hslots Hlents]
  · isplitl [Hslots] <;> iassumption
  ihave Hg := (Entails.of_eq (gPts_slots c fullShare (gath m c)).symm) $$ [Hslots Hown]
  · isplitl [Hslots] <;> iassumption
  iapply Hk
  unfold bodyPost Φ₁
  rw [bigSep_own]
  isplitl [Hv Hg HzL HzS HzV HzB Hx]
  · isplitl [Hv]; · iexists _; unfold vPts; iexact Hv
    isplitl [Hg]; · iexists _; iexact Hg
    isplitl [HzL HzS HzV]
    · isplitl [HzL]; · iexact HzL
      isplitl [HzS] <;> iassumption
    isplitl [HzB] <;> iassumption
  isplitl [HO]; · iexact HO
  iexists _; isplitr; · (ipureintro; rfl)
  iexact Hout

end Cert.Mesh16

end
-- ==== Proof.Launch.lean ====
/-
The launch: every device's body run from the memory and the counters at zero.

The cells of all the devices are allocated together, each device is dealt the tokens of the duties it pays — those of the
peer's cells come from the peer —, and the credits the devices owe each other are handed to the cells' owners. What the
run leaves: the result arrays at the computed values, the argument as it was, every counter at zero.
-/
module

public import proofs.«01_k».proof.Proof.Body
public import Idealize.ShloMosaic.Lib.Pipeline.CollectiveSegs

@[expose] public section

noncomputable section

namespace Cert.Mesh16

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

/-- The scoped roles are the semaphores the kernel scopes, the staging's apart. -/
theorem ownSemFacts : Pipeline.OwnSemFacts cfg0.spec osem := by decide +kernel

theorem share_eq (c : Dev nD) (w : Fin cfg0.W) : (dats m 0 c).share w = fullShare := by unfold Dat.share; split <;> rfl

/-- All the cells of the protocol. -/
def meshCells : Finset (GSem nD τ sig) := Finset.univ.map ⟨kcell, kcell_injective⟩

/-- The token of a duty of device `c`'s cells: of its barrier's fifteen, or another cell's one. -/
abbrev tokOf : Dev nD × (Fin 15 ⊕ Own) → GSem nD τ sig × ℕ × Fin 15
  | (c, .inl j) => (barCell c, 0, j)
  | (c, .inr k) => (kcell (c, .inr k), 0, 0)

theorem tokOf_injective : Function.Injective tokOf := by
  rintro ⟨c, j | k⟩ ⟨c', j' | k'⟩ h
  · have h1 := kcell_injective (a₁ := (c, Role.bar)) (a₂ := (c', Role.bar)) (congrArg Prod.fst h)
    have h2 : j = j' := congrArg (fun x : GSem nD τ sig × ℕ × Fin 15 => x.2.2) h
    have h3 : c = c' := congrArg Prod.fst h1
    rw [h3, h2]
  · exact absurd (congrArg Prod.snd (kcell_injective (a₁ := (c, Role.bar)) (a₂ := (c', .inr k')) (congrArg Prod.fst h))) (fun h => by cases h)
  · exact absurd (congrArg Prod.snd (kcell_injective (a₁ := (c, .inr k)) (a₂ := (c', Role.bar)) (congrArg Prod.fst h))) (fun h => by cases h)
  · have h1 := kcell_injective (a₁ := (c, .inr k)) (a₂ := (c', .inr k')) (congrArg Prod.fst h)
    have h2 : c = c' := congrArg Prod.fst h1
    rw [h2, Sum.inr.inj (congrArg Prod.snd h1)]

/-- All the tokens. -/
def meshToks : Finset (GSem nD τ sig × ℕ × Fin 15) := Finset.univ.map ⟨tokOf, tokOf_injective⟩

/-- The launch element: the staging pipeline's and the protocol's. -/
def u₀ : UU := (initOf (Pipeline.cells cfgs cellOf_inj) (Pipeline.launchToks cfgs cellOf_inj), initOf meshCells meshToks)

/-- The tokens of device `c`'s own cells. -/
def toks (c : Dev nD) : sProp 𝕄 :=
  iprop((bigSep Finset.univ fun j : Fin 15 => dutyTok ER (barCell c) 0 j) ∗ bigSep Finset.univ fun k : Own => dutyTok ER (kcell (c, .inr k)) 0 0)

/-- What the launch element deals device `c`. -/
def G (c : Dev nD) : sProp 𝕄 :=
  iprop((bigSep Finset.univ fun k : Role => roundState ER (rd m) (kcell (c, k)) 0)
    ∗ (bigSep Finset.univ fun k : Role => iprop(atPos ER (kcell (c, k)) 0 ∅ 0 ∗ reached ER (kcell (c, k)) 0)) ∗ toks c)

/-- What the allocation of the cells makes of it. -/
def G' (c : Dev nD) : sProp 𝕄 := iprop(∃ K, ghost m K c)

/-- The protocol's element funds what every device is dealt. -/
theorem fund_mesh : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun k : Role => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks; rw [bigSep_map, bigSep_univ_prod]
    exact bigSep_congr fun c _ => by unfold toks; rw [bigSep_univ_sum]; rfl
  iintro HX
  imod (Rounds.fund ER (rd m) meshCells meshToks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- The barrier's semaphore is the one that outlives the kernel. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- The scoped semaphores at zero, by role. -/
theorem ownSems0_eq (c : Dev nD) : (Pipeline.ownSems0 (Ix := Unit) (Name := ℕ) (U := UU) (Lvl := ℕ) (Val := Elt F) (τ := τ) osem c : sProp 𝕄)
    = bigSep Finset.univ fun k : Own => semVal (kcell (c, .inr k)) 0 := by unfold Pipeline.ownSems0; rfl

/-- Every cell of a device at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Role => semVal (kcell (c, k)) 0 : sProp 𝕄) := by
  have h : (bigSep Finset.univ fun k : Role => (semVal (kcell (c, k)) 0 : sProp 𝕄))
      = iprop(semVal (barCell c) 0 ∗ bigSep Finset.univ fun k : Own => semVal (kcell (c, .inr k)) 0) := by
    rw [bigSep_univ_sum, bigSep_unit]; rfl
  rw [ownSems0_eq, unscopedSems0_eq, h]
  exact sep_comm

/-- One device's cells allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Role => semVal (kcell (c, k)) 0) ∗ bigSep Finset.univ fun k : Role => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat] <;> iassumption

/-- A family over devices and distances may be dealt to the peers instead. -/
theorem around (Φ : Fin 15 → Dev nD → sProp 𝕄) : (bigSep Finset.univ fun c : Dev nD => bigSep Finset.univ fun j : Fin 15 => Φ j c)
    = bigSep Finset.univ fun c : Dev nD => bigSep Finset.univ fun j : Fin 15 => Φ j (peer c j) := by
  rw [Pipeline.bigSep_univ_comm, bigSep_congr fun j _ => bigSep_univ_equiv (shift j) (Φ j), Pipeline.bigSep_univ_comm]; rfl

/-- The tokens dealt to the devices that pay the duties. -/
theorem toks_around : (bigSep Finset.univ fun c : Dev nD => (toks c : sProp 𝕄)) ⊢ bigSep Finset.univ fun c : Dev nD => payToks c := by
  unfold toks payToks
  simp only [bigSep_own, bigSep_sep']
  rw [around fun j c => dutyTok ER (barCell c) 0 j, around fun j c => dutyTok ER (kcell (c, .inr (.inr (.inr j)))) 0 0]

/-- A record that all may keep, dealt beside a family. -/
theorem deal_record {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The allocated cells, positions and tokens of all devices regrouped as what each starts from. -/
theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Role => iprop(∃ κ : ℕ, cellInv ER (rd m) κ (kcell ck))),
    bigSep_congr (s := Finset.univ) (fun (c : Dev nD) _ => bigSep_sep' Finset.univ (fun k : Role => (atPos ER (kcell (c, k)) 0 ∅ 0 : sProp 𝕄)) (fun k => reached ER (kcell (c, k)) 0)),
    bigSep_sep', ← bigSep_univ_prod (fun ck : Dev nD × Role => (reached ER (kcell ck) 0 : sProp 𝕄))]
  iintro ⟨HI, ⟨Hat, #HR⟩, Htok⟩
  ihave HK := (BI.bigSep_exists_pi Finset.univ (fun (ck : Dev nD × Role) (κ : ℕ) => (cellInv ER (rd m) κ (kcell ck) : sProp 𝕄))) $$ HI
  icases HK with ⟨%K, #HI⟩
  ihave Htk := (toks_around (F := F)) $$ Htok
  iapply (deal_record (R := records m K) (Φ := fun c => iprop((bigSep Finset.univ fun k : Role => atPos ER (kcell (c, k)) 0 ∅ 0) ∗ payToks c))
    fun c _ => show _ ⊢ G' m c by unfold G' ghost; iintro H; iexists K; iexact H)
  isplitr
  · unfold records invs marks; isplitl; · iexact HI
    iexact HR
  · rw [bigSep_sep']
    isplitl [Hat]; · iexact Hat
    iexact Htk

/-- All the devices' cells allocated and dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits at launch -/

/-- What is summed over the list of distances is summed over all of them. -/
theorem sum_dists {A : Type} [AddCommMonoid A] (f : Fin 15 → A) : (dists.map f).sum = ∑ j, f j := by
  rw [dists_univ, List.sum_toFinset _ dists_nodup]

/-- What all the devices owe together, regrouped by the device owed. -/
theorem owed_all : ∑ d : Dev nD, O₀ d = ∑ c : Dev nD, ∑ j : Fin 15, (tallyAt (recvCell c j) () N + tallyAt (barCell c) () 1) := by
  have hs (f : Fin 15 → Dev nD → CellTallies nD τ sig Unit) : ∑ d : Dev nD, ∑ j, f j (peer d j) = ∑ d : Dev nD, ∑ j, f j d := by
    rw [Finset.sum_comm, Finset.sum_congr rfl fun j _ => show ∑ d, f j (peer d j) = ∑ d, f j d from Equiv.sum_comp (shift j) (f j), Finset.sum_comm]
  unfold O₀ oweRecv oweBar
  simp only [sum_dists, ← Finset.sum_add_distrib]
  exact hs fun j c => tallyAt (recvCell c j) () N + tallyAt (barCell c) () 1

/-- What all owe together at one cell. -/
theorem owed_cell (g : GSem nD τ sig) : ∑ d : Dev nD, O₀ d g () = ∑ c : Dev nD, ∑ j : Fin 15, ((if g = recvCell c j then N else 0) + if g = barCell c then 1 else 0) := by
  have h := congrArg (fun O : CellTallies nD τ sig Unit => O g ()) owed_all
  simpa only [Finset.sum_apply, Finsupp.finset_sum_apply, Pi.add_apply, Finsupp.add_apply, tallyAt_apply, and_true] using h

/-- A barrier is owed fifteen units; -/
theorem launch_bar (c : Dev nD) :
    tallyOn (barCell c) (launchCredit (Pipeline.owing O₀) 0 (barCell c)) = (tallyAt (barCell c) () 15 : CellTallies nD τ sig Unit) := by
  have hr (d : Dev nD) (j : Fin 15) : barCell c ≠ recvCell d j := fun h =>
    absurd (congrArg Prod.snd (kcell_injective (a₁ := (c, Role.bar)) (a₂ := (d, Role.recv j)) h)) (fun h => by cases h)
  have hb (d : Dev nD) : barCell c = barCell d ↔ c = d :=
    ⟨fun h => congrArg Prod.fst (kcell_injective (a₁ := (c, Role.bar)) (a₂ := (d, Role.bar)) h), fun h => h ▸ rfl⟩
  unfold tallyAt; refine congrArg _ (Finsupp.ext fun u => ?_); cases u
  rw [Pipeline.launchCredit_owing, Finsupp.single_eq_same, owed_cell]
  simp [hr, hb]

/-- a receive what one copy credits. -/
theorem launch_recv (c : Dev nD) (j : Fin 15) :
    tallyOn (recvCell c j) (launchCredit (Pipeline.owing O₀) 0 (recvCell c j)) = (tallyAt (recvCell c j) () N : CellTallies nD τ sig Unit) := by
  have hb (d : Dev nD) : recvCell c j ≠ barCell d := fun h =>
    absurd (congrArg Prod.snd (kcell_injective (a₁ := (c, Role.recv j)) (a₂ := (d, Role.bar)) h)) (fun h => by cases h)
  have hr (d : Dev nD) (i : Fin 15) : recvCell c j = recvCell d i ↔ c = d ∧ j = i :=
    ⟨fun h => by
      have h' := kcell_injective (a₁ := (c, Role.recv j)) (a₂ := (d, Role.recv i)) h
      exact ⟨congrArg Prod.fst h', Sum.inr.inj (Sum.inr.inj (Sum.inr.inj (congrArg Prod.snd h')))⟩, fun h => by rw [h.1, h.2]⟩
  unfold tallyAt; refine congrArg _ (Finsupp.ext fun u => ?_); cases u
  rw [Pipeline.launchCredit_owing, Finsupp.single_eq_same, owed_cell]
  simp [hr, hb, ite_and]

/-- The credits device `c` waits with. -/
theorem creds (c : Dev nD) :
    (Pipeline.launchCred O₀ c : sProp 𝕄) ⊢ iprop(cred (tallyAt (barCell c) () 15) ∗ bigSep Finset.univ fun j : Fin 15 => cred (tallyAt (recvCell c j) () N)) := by
  have hinj : Function.Injective fun j : Fin 15 => (SemLoc.dma (recvS j) : SemLoc sig) := fun i j h =>
    Sum.inr.inj (Sum.inr.inj (Sum.inr.inj (Option.some.inj ((roleOf_csem (Role.recv i)).symm.trans ((congrArg roleOf h).trans (roleOf_csem (Role.recv j)))))))
  have hsub : Finset.univ.map ⟨_, hinj⟩ ⊆ Finset.univ.erase (SemLoc.reg barS : SemLoc sig) := fun s hs => by
    obtain ⟨j, -, rfl⟩ := Finset.mem_map.mp hs
    exact Finset.mem_erase.mpr ⟨(nofun : (SemLoc.dma (recvS j) : SemLoc sig) ≠ .reg barS), Finset.mem_univ _⟩
  unfold Pipeline.launchCred
  rw [bigSep_univ_at _ (SemLoc.reg barS), launch_bar]
  refine sep_mono_right ?_
  refine (bigSep_subset hsub).trans ?_
  rw [bigSep_map]
  exact bigSep_mono fun j _ => Entails.of_eq (congrArg cred (launch_recv c j))

/-! ## What the launch is given and leaves -/

/-- What a device starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hx, Hlev, Hcr, -, HG⟩
  ihave Hc := (creds (F := F) c) $$ Hcr
  imodintro
  unfold start G' xPts
  isplitl
  · isplitl [HG]; · iexact HG
    isplitl [Hc]; · iexact Hc
    isplitl [Hlev] <;> iassumption
  · iempintro

/-- The body's start: that and the scratch buffers. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ vPts gPts
  iintro ⟨Hs, -, Hv, Hg⟩
  isplitl [Hs]; · iexact Hs
  isplitl [Hv] <;> iassumption

/-- What the body leaves, parted as the launch takes it. -/
theorem phi1_exit (c : Dev nD) :
    (dats m 0 c).Φ (Fin.last cfg0.N) ⊢ iprop((unscopedSems0 c ∗ xPts m c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ vPts gPts
  iintro ⟨Hv, Hg, Hz, HzB, Hx⟩
  isplitl [HzB Hx]
  · isplitl [HzB] <;> iassumption
  isplitl [Hz]; · iexact Hz
  isplitl [Hv] <;> iassumption

/-- The staging's waits are below all that is owed. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide +kernel) _ (by
      rcases t with ⟨_ | _, ht⟩
      · exact Or.inl rfl
      · exact Or.inr rfl)

/-- What the pipeline hands the body; -/
def obligPre (c : Dev nD) : sProp 𝕄 :=
  iprop(Φ₀ m c ∗ (dats m 0 c).owesAt () t0_0.castSucc ∗ ∃ d, stg c cc0_stg0_0 ((dats m 0 c).before (0 : Fin 1) t0_0 d))
/-- what it takes back. -/
def obligPost (c : Dev nD) : sProp 𝕄 :=
  iprop(Φ₁ m c ∗ (dats m 0 c).owesAt () t0_0.succ ∗ stg c cc0_stg0_0 (result m c))

set_option maxRecDepth 20000 in
/-- The body meets the pipeline's obligation. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show obligPre m c ⊢ runs c (cc0_body xM (Memref.isWhole_whole _) oM (Memref.isWhole_whole _) vM (Memref.isWhole_whole _) gM (Memref.isWhole_whole _) cc0_scratch2 cc0_scratch3 cc0_scratch4)
    (fun _ => obligPost m c)
  rw [body_eq_loop]
  unfold obligPre obligPost Φ₀ start Dat.owesAt Pipeline.owesWithin
  rw [show (dats m 0 c).owed t0_0.castSucc = O₀ c from rfl, show (dats m 0 c).owed t0_0.succ = 0 from rfl]
  iintro ⟨⟨⟨⟨%K, Hg⟩, Hc, Hlev, Hx⟩, Hv, Hb⟩, ⟨%W, %hW, HO⟩, ⟨%d, Hout⟩⟩
  iapply (sound_body m K c fun _ => obligPost m c)
  unfold bodyPre bodyPost obligPost Dat.owesAt Pipeline.owesWithin
  isplitr []
  · isplitl [Hg Hc Hlev Hx Hv Hb]
    · isplitl [Hg]; · iexact Hg
      isplitl [Hc]; · iexact Hc
      isplitl [Hlev]; · iexact Hlev
      isplitl [Hx]; · iexact Hx
      isplitl [Hv] <;> iassumption
    isplitl [HO]; · iexists W; iexact HO
    iexists _; iexact Hout
  · iintro ⟨H, ⟨%W, HO⟩, Hout⟩
    isplitl [H]; · iexact H
    isplitl [HO]
    · iexists W
      isplitr; · ipureintro; exact fun _ _ => Or.inl trivial
      iexact HO
    iexact Hout

/-! ## The run -/

/-- What the run leaves on device `c`: the result's array as the pipeline wrote it, the argument as it was. -/
def leaves (c : Dev nD) (s : MemSt nD τ sig (Elt F)) : Prop :=
  s.mem ((c : Thread nD τ).loc main_v1) = (dats m 0 c).arrAt (0 : Fin 1) cfg0.N ∧ s.mem ((c : Thread nD τ).loc main_arg0) = m ((c : Thread nD τ).loc main_arg0)

/-- The argument's buffer, read at the end. -/
theorem read_x (c : Dev nD) (s' : Phys nD τ sig (Elt F)) :
    iprop(xPts m c ∗ SI s') ⊢ (iprop(⌜s'.mem.mem ((c : Thread nD τ).loc main_arg0) = m ((c : Thread nD τ).loc main_arg0)⌝ ∗ SI s') : sProp 𝕄) := by
  have h := pointsTo_read_all (Ix := Unit) (Name := ℕ) (U := UU) (Lvl := ℕ) (Finset.univ : Finset Unit) (fun _ => (c : Thread nD τ).loc main_arg0) (fun _ => m ((c : Thread nD τ).loc main_arg0)) s'
  rw [bigSep_unit] at h
  unfold xPts
  iintro H
  ihave H := h $$ H
  icases H with ⟨%hx, H⟩
  isplitr; · ipureintro; exact hx () (Finset.mem_univ _)
  iexact H

set_option maxRecDepth 8000 in
/-- From any memory with the counters at zero, every weakly fair execution of `main` on the sixteen devices terminates, and
    every final state has what `leaves` says on every device and every semaphore counter at zero. -/
theorem run_main : θ_run defs (onTc (τ := τ) (main (F := F))) ⟨m, fun _ => 0, ρ⟩ (fun r => (∀ c, leaves m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w; exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_mesh m) $$ HX with HG
      imodintro
      isplitl [HP] <;> iassumption)
    (hglob := glob m)
    (hA := fun _ _ => rfl) (hpf := fun _ k => k.elim0)
    (X := start m) (Y := fun c => iprop(unscopedSems0 c ∗ xPts m c)) (Z := fun _ => iprop(emp))
    (hX := start_intro m ρ) (hin := phi0_intro m) (hout := phi1_exit m)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => by
      iintro ⟨⟨Hu, Hx⟩, -, HSI⟩
      ihave H := (read_x m c s') $$ [Hx HSI]
      · isplitl [Hx] <;> iassumption
      icases H with ⟨%hx, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hx, hs⟩
      iexact HSI)
    (hQ := fun _ h hs => ⟨fun c => ⟨(h c).1 (0 : Fin 1), (h c).2.2.1⟩, sem_eq_zero hs fun c => (h c).2.2.2⟩)

end Cert.Mesh16

end
-- ==== Proof.Result.lean ====
/-
The result's array after the run: on every device, the combined pairs.
-/
module

public import proofs.«01_k».proof.Proof.Launch
public import Idealize.ShloMosaic.Lib.Pipeline.ValueKit

@[expose] public section

noncomputable section

namespace Cert.Mesh16

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The one point writes the whole result back. -/
theorem arr_final (c : Dev nD) : (dats m 0 c).arrAt (0 : Fin 1) cfg0.N = result m c := by
  refine (dats m 0 c).arrAt_eq_of_after_last (0 : Fin 1) t0_0 (by decide +kernel) _ fun j => ?_
  blk_simp
  rfl

/-- The run, with the result's array at the combined pairs. -/
theorem run_result : θ_run defs (onTc (τ := τ) (main (F := F))) ⟨m, fun _ => 0, ρ⟩ (fun r => ∀ c : Dev nD,
    r.2.mem ((c : Thread nD τ).loc main_v1) = result m c ∧ r.2.mem ((c : Thread nD τ).loc main_arg0) = m ((c : Thread nD τ).loc main_arg0)) :=
  (θ_run defs _ _).mono (fun r h c => ⟨(h.1 c).1.trans (arr_final m c), (h.1 c).2⟩) (run_main m ρ)

/-- The run, with the argument unchanged and the machine quiescent. -/
theorem run_frame : θ_run defs (onTc (τ := τ) (main (F := F))) ⟨m, fun _ => 0, ρ⟩ (fun r => (∀ c : Dev nD,
    r.2.mem ((c : Thread nD τ).loc main_arg0) = m ((c : Thread nD τ).loc main_arg0)) ∧ r.2.sem = fun _ => 0) :=
  (θ_run defs _ _).mono (fun r h => ⟨fun c => (h.1 c).2, h.2⟩) (run_main m ρ)

end Cert.Mesh16

end
-- ==== Proof.Same.lean ====
/-
The kernel and the ideal kernel are one text: their body tables are equal, over any float values.
-/
module

public import proofs.«01_k».proof.Proof.Gen.Kernel
public import proofs.«01_k».proof.Proof.Gen.KernelIdeal

@[expose] public section

noncomputable section

namespace Cert.Mesh16

open Idealize.ShloMosaic Idealize.SL.Sem

variable {F : FTy → Type} [FloatOps F]

/-- The two programs' kernels are the same. -/
theorem bodies_eq : Cert.KernelIdeal.defs₀ (F := F) = Cert.Kernel.defs₀ (F := F) := by
  unfold Cert.Kernel.defs₀ Cert.KernelIdeal.defs₀
  refine congrArg Defs.onTc (funext fun ℓ => funext fun a => ?_)
  match ℓ with
  | ⟨0, _⟩ => rfl

/-- The two programs' body tables are the same. -/
theorem tables_eq : Cert.KernelIdeal.defs (F := F) = Cert.Kernel.defs (F := F) :=
  congrArg (Pipeline.defs Cert.Kernel.pcfgs) bodies_eq

end Cert.Mesh16

end
-- ==== Proof.First.lean ====
/-
The first largest entry of a finite family of extended reals: that it exists, that it is one, how folds find
it, and how the first largest entry of a long family follows from those of its consecutive blocks.
-/
module

public import Idealize.ShloMosaic.PureOps.Ideal.Laws
public import Idealize.ShloMosaic.PureOps.Reduce

@[expose] public section

noncomputable section

namespace Cert.Mesh16

open Idealize.ShloMosaic

/-- Place `i` holds the largest entry of `f`, and no earlier place does. -/
def IsFirst {n : ℕ} (f : Fin n → EReal) (i : Fin n) : Prop := (∀ j, f j ≤ f i) ∧ ∀ j, f j = f i → i ≤ j

/-- A family that is not empty has a first largest entry. -/
theorem exists_first {n : ℕ} [NeZero n] (f : Fin n → EReal) : ∃ i, IsFirst f i := by
  obtain ⟨k, -, hk⟩ := Finset.exists_max_image Finset.univ f ⟨0, Finset.mem_univ _⟩
  obtain ⟨i, hi, hmin⟩ := Finset.exists_min_image (Finset.univ.filter fun j => f j = f k) id ⟨k, by simp⟩
  have hi' : f i = f k := (Finset.mem_filter.mp hi).2
  exact ⟨i, fun j => (hk j (Finset.mem_univ j)).trans hi'.ge,
    fun j hj => hmin j (Finset.mem_filter.mpr ⟨Finset.mem_univ j, hj.trans hi'⟩)⟩

/-- Two first largest entries are at one place. -/
theorem IsFirst.eq {n : ℕ} {f : Fin n → EReal} {i j : Fin n} (hi : IsFirst f i) (hj : IsFirst f j) : i = j :=
  le_antisymm (hi.2 j (le_antisymm (hi.1 j) (hj.1 i))) (hj.2 i (le_antisymm (hj.1 i) (hi.1 j)))

/-- A fold of the maximum is the entry that no entry and no start exceeds. -/
theorem fold_max_eq {α ι : Type} [LinearOrder α] [Fintype ι] {b : α} {v : ι → α} (k : ι)
    (hb : b ≤ v k) (hv : ∀ j, v j ≤ v k) : Finset.univ.fold max b v = v k :=
  le_antisymm ((Finset.fold_max_le _).mpr ⟨hb, fun j _ => hv j⟩)
    ((Finset.le_fold_max _).mpr (.inr ⟨k, Finset.mem_univ k, le_rfl⟩))

/-- A fold of the minimum is the entry that is below every entry and below the start. -/
theorem fold_min_eq {α ι : Type} [LinearOrder α] [Fintype ι] {b : α} {v : ι → α} (k : ι)
    (hb : v k ≤ b) (hv : ∀ j, v k ≤ v j) : Finset.univ.fold min b v = v k :=
  fold_max_eq (α := αᵒᵈ) k hb hv

/-- A fold of the maximum from minus infinity is the first largest entry. -/
theorem IsFirst.fold_max {n : ℕ} {f : Fin n → EReal} {i : Fin n} (h : IsFirst f i) :
    Finset.univ.fold max ⊥ f = f i := fold_max_eq i bot_le h.1

/-- The signed minimum of two words, read as an integer. -/
theorem toInt_minsi (a b : BitVec 32) : (IntOp.minsi a b).toInt = min a.toInt b.toInt := by
  simp only [IntOp.minsi, BitVec.slt, decide_eq_true_eq]
  split <;> omega

/-- A small number's word, read as an integer. -/
theorem toInt_small {k : ℕ} (hk : k < 2 ^ 31) : (BitVec.ofNat 32 k).toInt = k := by
  rw [BitVec.toInt_eq_toNat_of_lt (by rw [BitVec.toNat_ofNat]; omega), BitVec.toNat_ofNat]
  omega

/-- The least of the places of the largest entry, found on words: places elsewhere count as a large word. -/
theorem IsFirst.fold_minsi {n : ℕ} (hn : n ≤ 2 ^ 30) {f : Fin n → EReal} {i : Fin n} (h : IsFirst f i) :
    Finset.univ.fold IntOp.minsi 2147483647#32 (fun k : Fin n => if f k = f i then BitVec.ofNat 32 k else 1073741824#32)
      = BitVec.ofNat 32 i := by
  have hw : ∀ k : Fin n, (BitVec.ofNat 32 k).toInt = k := fun k => toInt_small (by have := k.isLt; omega)
  apply BitVec.toInt_inj.mp
  rw [← Finset.fold_hom (op' := min) toInt_minsi, fold_min_eq i]
  · simp
  · have := i.isLt
    simp only [if_true, hw]
    rw [show (2147483647#32).toInt = 2147483647 from rfl]
    omega
  · intro k
    have := i.isLt
    simp only [if_true, hw]
    split
    · rename_i hk
      rw [hw]
      exact_mod_cast h.2 k hk
    · rw [show (1073741824#32).toInt = 1073741824 from rfl]
      omega

/-- Row `r` of block `d`, in the whole. -/
def rowAt (d : Fin 16) (r : Fin 1024) : Fin 16384 := ⟨1024 * d + r, by omega⟩

/-- Every row lies in a block. -/
theorem rowAt_surj (i : Fin 16384) : ∃ d r, i = rowAt d r :=
  ⟨⟨i / 1024, by omega⟩, ⟨i % 1024, by omega⟩, Fin.ext (by simp only [rowAt]; omega)⟩

/-- A row's number, as a value. -/
def num (i : Fin 16384) : EReal := ((i : ℝ) : EReal)

/-- Rows in order have their numbers in order. -/
theorem num_le {i j : Fin 16384} (h : i ≤ j) : num i ≤ num j := by
  unfold num
  exact_mod_cast h

section
variable {f : Fin 16384 → EReal} {i : Fin 16384} (h : IsFirst f i)
variable {r : Fin 16 → Fin 1024} (hr : ∀ d, IsFirst (fun k => f (rowAt d k)) (r d))
include h hr

/-- Some block's first largest entry is the whole's. -/
theorem block_of_first : ∃ d, rowAt d (r d) = i := by
  obtain ⟨d, k, rfl⟩ := rowAt_surj i
  refine ⟨d, congrArg _ ((hr d).eq ⟨fun j => h.1 _, fun j hj => ?_⟩)⟩
  have := h.2 _ hj
  simp only [rowAt, Fin.le_def] at this ⊢
  omega

/-- The largest of the blocks' largest entries, taken in any order of the blocks, is the whole's. -/
theorem blocks_max {σ : Fin 16 → Fin 16} (hσ : Function.Surjective σ) :
    Finset.univ.fold max ⊥ (fun k => f (rowAt (σ k) (r (σ k)))) = f i := by
  obtain ⟨d, hd⟩ := block_of_first h hr
  obtain ⟨k, rfl⟩ := hσ d
  rw [fold_max_eq k bot_le fun j => ?_, hd]
  rw [hd]
  exact h.1 _

/-- The least of the first largest rows of the blocks that reach the whole's largest entry is the whole's first;
    a block that does not reach it counts as a number above every row's. -/
theorem blocks_first {σ : Fin 16 → Fin 16} (hσ : Function.Surjective σ) {big : EReal} (hbig : ∀ j, num j ≤ big) :
    Finset.univ.fold min ⊤ (fun k => if f (rowAt (σ k) (r (σ k))) = f i then num (rowAt (σ k) (r (σ k))) else big)
      = num i := by
  obtain ⟨d, hd⟩ := block_of_first h hr
  obtain ⟨k, rfl⟩ := hσ d
  rw [fold_min_eq k le_top fun j => ?_, hd, if_pos rfl]
  rw [hd, if_pos rfl]
  split
  · rename_i hj
    exact num_le (h.2 _ hj)
  · exact hbig i

end

/-- The pair `p` stands before `q` in an arg-max: a larger entry, or the same entry at a place not later. -/
def Before (p q : EReal × BitVec 32) : Prop := q.1 < p.1 ∨ p.1 = q.1 ∧ p.2.toInt ≤ q.2.toInt

/-- `Before` passes along. -/
theorem Before.trans {p q s : EReal × BitVec 32} (h₁ : Before p q) (h₂ : Before q s) : Before p s := by
  rcases h₁ with h₁ | ⟨e₁, l₁⟩ <;> rcases h₂ with h₂ | ⟨e₂, l₂⟩
  · exact .inl (h₂.trans h₁)
  · exact .inl (e₂ ▸ h₁)
  · exact .inl (e₁ ▸ h₂)
  · exact .inr ⟨e₁.trans e₂, l₁.trans l₂⟩

/-- A left fold that keeps, of two pairs, one that is before both, ends at one of the pairs, before all. -/
theorem foldl_before {g : EReal × BitVec 32 → EReal × BitVec 32 → EReal × BitVec 32}
    (hg : ∀ p q, (g p q = p ∨ g p q = q) ∧ Before (g p q) p ∧ Before (g p q) q) :
    ∀ (l : List (EReal × BitVec 32)) (p : EReal × BitVec 32),
      l.foldl g p ∈ p :: l ∧ ∀ q ∈ p :: l, Before (l.foldl g p) q
  | [], p => ⟨by simp, fun q hq => by
      rw [List.mem_singleton.mp hq]
      exact .inr ⟨rfl, le_rfl⟩⟩
  | a :: l, p => by
    obtain ⟨hm, hb⟩ := foldl_before hg l (g p a)
    have hpa := hb _ List.mem_cons_self
    refine ⟨?_, fun q hq => ?_⟩
    · rcases List.mem_cons.mp hm with e | e
      · rcases (hg p a).1 with e' | e' <;> rw [List.foldl_cons, e, e'] <;> simp
      · exact List.mem_cons_of_mem _ (List.mem_cons_of_mem _ e)
    · rcases List.mem_cons.mp hq with rfl | hq
      · exact hpa.trans (hg q a).2.1
      · rcases List.mem_cons.mp hq with rfl | hq
        · exact hpa.trans (hg p q).2.2
        · exact hb q (List.mem_cons_of_mem _ hq)

/-- Such a fold over all the places of a family, from minus infinity at place nought, ends at the first largest
    entry's place. -/
theorem IsFirst.foldl {g : EReal × BitVec 32 → EReal × BitVec 32 → EReal × BitVec 32}
    (hg : ∀ p q, (g p q = p ∨ g p q = q) ∧ Before (g p q) p ∧ Before (g p q) q)
    {f : Fin 16384 → EReal} {i : Fin 16384} (h : IsFirst f i) {l : List (EReal × BitVec 32)}
    (hl : ∀ p, p ∈ l ↔ ∃ k : Fin 16384, p = (f k, BitVec.ofNat 32 k)) :
    (l.foldl g (⊥, 0#32)).2 = BitVec.ofNat 32 i := by
  have hw : ∀ k : Fin 16384, (BitVec.ofNat 32 k).toInt = k := fun k => toInt_small (by have := k.isLt; omega)
  obtain ⟨hm, hb⟩ := foldl_before hg l (⊥, 0#32)
  have hi := hb _ (List.mem_cons_of_mem _ ((hl _).mpr ⟨i, rfl⟩))
  generalize l.foldl g (⊥, 0#32) = p at hm hi
  rcases List.mem_cons.mp hm with rfl | hm
  · rcases hi with hi | ⟨e, -⟩
    · exact absurd hi not_lt_bot
    · have h0 := h.2 0 (le_antisymm (h.1 0) ((show f i = ⊥ from e.symm) ▸ bot_le))
      rw [Fin.le_zero_iff.mp h0]
      rfl
  · obtain ⟨k, rfl⟩ := (hl p).mp hm
    rcases hi with hi | ⟨e, hle⟩
    · exact absurd hi (not_lt.mpr (h.1 k))
    · have h1 := h.2 k e
      simp only [hw] at hle
      rw [le_antisymm h1 (by exact_mod_cast hle)]

end Cert.Mesh16

end
-- ==== Proof.Block.lean ====
/-
What one device computes, on ideal values: of its block's columns, the largest entries and the rows, counted in
the whole array, where they first stand; and what sixteen such pairs combine to.
-/
module

public import proofs.«01_k».proof.Proof.First
public import proofs.«01_k».proof.Proof.Slots
public import Idealize.ShloMosaic.Lib.Pointwise

@[expose] public section

noncomputable section

namespace Cert.Mesh16

open Cert.KernelIdeal Cert.KernelIdeal.Gen
open Idealize.ShloMosaic Idealize.ShloMosaic.TcCoe

/-- The pattern a maximum starts from is minus infinity. -/
theorem start_max : Ideal.ofBits .f32 0xFF800000#32 = ⊥ := by
  simp [Ideal.ofBits, Ideal.ieee]

/-- The pattern a minimum starts from is plus infinity. -/
theorem start_min : Ideal.ofBits .f32 0x7F800000#32 = ⊤ := by
  simp [Ideal.ofBits, Ideal.ieee]

/-- The number that stands for no row. -/
abbrev noRow : EReal := Ideal.ofBits .f32 0x4BE4E1C0#32

/-- That number is above every row's. -/
theorem num_le_noRow (i : Fin 16384) : num i ≤ noRow := by
  have hb : noRow = ((30000000 : ℝ) : EReal) := by
    simp [noRow, Ideal.ofBits, Ideal.ieee, -EReal.coe_mul]; norm_num
  rw [hb, num]
  have := i.isLt
  exact_mod_cast (by omega : (i : ℕ) ≤ 30000000)

section
variable {α : Type} (a b : S1x512.Idx → α) (n : Fin 512)

/-- Of two rows, one over the other, the upper. -/
theorem stack_upper (h) : concatenate S2x512 0 [⟨S1x512, a⟩, ⟨S1x512, b⟩] h (ix2 (0 : Fin 2) n) = a (ix2 (0 : Fin 1) n) := by
  refine (concatenate_pair_apply _ _ _ _ _).trans ((dif_pos Nat.zero_lt_one).trans ?_)
  congr 1
  apply eq_ix2

/-- Of two rows, one over the other, the lower. -/
theorem stack_lower (h) : concatenate S2x512 0 [⟨S1x512, a⟩, ⟨S1x512, b⟩] h (ix2 (1 : Fin 2) n) = b (ix2 (0 : Fin 1) n) := by
  refine (concatenate_pair_apply _ _ _ _ _).trans ((dif_neg (Nat.lt_irrefl 1)).trans ?_)
  congr 1
  apply eq_ix2

end

/-- Two rows behind a leading axis of one are the two rows. -/
theorem unstack {α : Type} (a : S2x512.Idx → α) (h) (k : Fin 2) (n : Fin 512) :
    shapeCast S1x2x512 a h (ix3 (0 : Fin 1) k n) = a (ix2 k n) := by
  simp only [pointwise]

/-- A device's own number as a word. -/
theorem devWord_eq : ∀ c : Dev nD, devWord c = BitVec.ofNat 32 c := by decide

section
variable (c : Dev nD) (x : Vec Ideal S1024x512 .f32) (n : Fin 512) {i : Fin 1024}
  (h : IsFirst (fun k : Fin 1024 => x (ix2 k n)) i)
include h

/-- The upper row of a device's pair is the largest entry of its block's column. -/
theorem pairOf_upper : pairOf (F := Ideal) c x (ix3 (0 : Fin 1) (0 : Fin 2) n) = x (ix2 i n) := by
  unfold pairOf k0_pay4
  rw [unstack, stack_upper]
  unfold k0_pay2 k0_pay1
  simp only [pointwise]
  rw [start_max]
  exact h.fold_max

/-- The lower row is the number, in the whole array, of the row where the largest entry first stands. -/
theorem pairOf_lower : pairOf (F := Ideal) c x (ix3 (0 : Fin 1) (1 : Fin 2) n) = num (rowAt c i) := by
  unfold pairOf k0_pay4
  rw [unstack, stack_lower]
  unfold k0_pay3 k0_pay1
  simp only [pointwise]
  simp only [show ¬(512 : ℕ) = 1 by decide, ↓reduceDIte]
  rw [start_max, h.fold_max]
  have hrow : ∀ k : Fin 1024, List.foldl (fun p (a : Fin 2) => p * ![1024, 512] a + ((ix2 k n a : Fin _) : ℕ)) 0 [0] = (k : ℕ) := fun k => by simp
  simp only [hrow]
  rw [h.fold_minsi (by decide), devWord_eq]
  have hword : IntOp.addi (BitVec.ofNat 32 i) (Scalar.muli (BitVec.ofNat 32 c) 1024#32) = BitVec.ofNat 32 (rowAt c i) := by
    have := i.isLt
    have := (show (c : ℕ) < 16 from c.isLt)
    apply BitVec.eq_of_toNat_eq
    simp only [IntOp.addi, Scalar.muli, IntOp.muli, BitVec.toNat_add, BitVec.toNat_mul, BitVec.toNat_ofNat, rowAt]
    omega
  rw [hword]
  show (((BitVec.ofNat 32 (rowAt c i)).toInt : ℝ) : EReal) = num (rowAt c i)
  rw [toInt_small (by have := (rowAt c i).isLt; omega)]
  simp [num]

end

section
variable (v w : Vec Ideal S16x1x512 .f32) (n : Fin 512) {M : EReal}

/-- The upper row of the result is the largest of the sixteen entries. -/
theorem combine_upper (hM : Finset.univ.fold max ⊥ (fun k : Fin 16 => v (ix3 k (0 : Fin 1) n)) = M) :
    k0_pay5 (F := Ideal) v w (ix2 (0 : Fin 2) n) = M := by
  unfold k0_pay5
  dsimp only
  rw [stack_upper]
  simp only [pointwise]
  rw [start_max]
  exact hM

/-- The lower row is the least number of those that stand beside the largest entry. -/
theorem combine_lower (hM : Finset.univ.fold max ⊥ (fun k : Fin 16 => v (ix3 k (0 : Fin 1) n)) = M) :
    k0_pay5 (F := Ideal) v w (ix2 (1 : Fin 2) n)
      = Finset.univ.fold min ⊤ fun k : Fin 16 => if v (ix3 k (0 : Fin 1) n) = M then w (ix3 k (0 : Fin 1) n) else noRow := by
  unfold k0_pay5
  dsimp only
  rw [stack_lower]
  simp only [pointwise]
  rw [start_max, start_min]
  simp only [show ¬(512 : ℕ) = 1 by decide, ↓reduceDIte]
  rw [hM]

end

end Cert.Mesh16

end
-- ==== Proof.Gathered.lean ====
/-
The kernel's result on ideal values, entry by entry, when its devices hold the consecutive blocks of one array.
-/
module

public import proofs.«01_k».proof.Proof.Block
public import Idealize.ShloMosaic.Lib.Pipeline.ValueKit

@[expose] public section

noncomputable section

namespace Cert.Mesh16

open Cert.KernelIdeal Cert.KernelIdeal.Gen
open Idealize.ShloMosaic Idealize.ShloMosaic.TcCoe

variable (m : (ℓ : Loc nD τ sig) → Buf (Elt Ideal) ℓ) (c : Dev nD) (n : Fin 512)

/-- The maxima read out of the gathered array: each slot's source's. -/
theorem vals_read (k : Fin 16) :
    ((gM : Memref sig .tc .vmem S16x2x512 .f32).view.readAt (Elt Ideal) valsR.toLoadRect (gath m c)) (ix3 k (0 : Fin 1) n)
      = pairOf (srcDev c k) (blockOf m (srcDev c k)) (ix3 (0 : Fin 1) (0 : Fin 2) n) := by
  have e : valsR.toLoadRect.idx (ix3 k (0 : Fin 1) n) = ix3 k (0 : Fin 2) n :=
    funext fun a => Fin.ext ((Rect.idx_unit_val _ _ _ _ a).trans (by fin_cases a <;> simp))
  rw [View.readAt_apply, e]
  show gath m c (ix3 k (0 : Fin 2) n) = _
  unfold gath
  congr 1

/-- The row numbers read out of the gathered array: each slot's source's. -/
theorem idxs_read (k : Fin 16) :
    ((gM : Memref sig .tc .vmem S16x2x512 .f32).view.readAt (Elt Ideal) idxsR.toLoadRect (gath m c)) (ix3 k (0 : Fin 1) n)
      = pairOf (srcDev c k) (blockOf m (srcDev c k)) (ix3 (0 : Fin 1) (1 : Fin 2) n) := by
  have e : idxsR.toLoadRect.idx (ix3 k (0 : Fin 1) n) = ix3 k (1 : Fin 2) n :=
    funext fun a => Fin.ext ((Rect.idx_unit_val _ _ _ _ a).trans (by fin_cases a <;> simp))
  rw [View.readAt_apply, e]
  show gath m c (ix3 k (1 : Fin 2) n) = _
  unfold gath
  congr 1

/-- Every device is the source of a slot. -/
theorem srcDev_surj : Function.Surjective (srcDev c) := fun d => ⟨srcDev c d, srcDev_srcDev c d⟩

section
variable {f : Fin 16384 → EReal} {i : Fin 16384} (hf : ∀ (d : Dev nD) (k : Fin 1024), blockOf m d (ix2 k n) = f (rowAt d k))
  (h : IsFirst f i)

include hf in
/-- The gathered pairs are those of the blocks' first largest entries. -/
theorem gathered : ∃ r : Fin 16 → Fin 1024, (∀ d, IsFirst (fun k => f (rowAt d k)) (r d)) ∧ ∀ k : Fin 16,
    ((gM : Memref sig .tc .vmem S16x2x512 .f32).view.readAt (Elt Ideal) valsR.toLoadRect (gath m c)) (ix3 k (0 : Fin 1) n)
        = f (rowAt (srcDev c k) (r (srcDev c k)))
      ∧ ((gM : Memref sig .tc .vmem S16x2x512 .f32).view.readAt (Elt Ideal) idxsR.toLoadRect (gath m c)) (ix3 k (0 : Fin 1) n)
        = num (rowAt (srcDev c k) (r (srcDev c k))) := by
  choose r hr using fun d : Fin 16 => exists_first fun k : Fin 1024 => f (rowAt d k)
  have hr' : ∀ d : Dev nD, IsFirst (fun k : Fin 1024 => blockOf m d (ix2 k n)) (r d) := fun d => by
    simpa only [hf] using hr d
  exact ⟨r, hr, fun k => ⟨(vals_read m c n k).trans ((pairOf_upper _ _ n (hr' _)).trans (hf _ _)),
    (idxs_read m c n k).trans (pairOf_lower _ _ n (hr' _))⟩⟩

include hf h

/-- The largest of the gathered maxima is the whole column's largest entry. -/
theorem gathered_max : Finset.univ.fold max ⊥ (fun k : Fin 16 =>
    ((gM : Memref sig .tc .vmem S16x2x512 .f32).view.readAt (Elt Ideal) valsR.toLoadRect (gath m c)) (ix3 k (0 : Fin 1) n)) = f i := by
  obtain ⟨r, hr, hk⟩ := gathered m c n hf
  exact (Finset.fold_congr fun k _ => (hk k).1).trans (blocks_max h hr (srcDev_surj c))

/-- The upper row of the result is the whole column's largest entry. -/
theorem result_upper : result (F := Ideal) m c (ix2 (0 : Fin 2) n) = f i :=
  combine_upper _ _ _ (gathered_max m c n hf h)

/-- The lower row of the result is the number of the row where the whole column's largest entry first stands. -/
theorem result_lower : result (F := Ideal) m c (ix2 (1 : Fin 2) n) = num i := by
  obtain ⟨r, hr, hk⟩ := gathered m c n hf
  refine (combine_lower _ _ _ (gathered_max m c n hf h)).trans ?_
  refine (Finset.fold_congr fun k _ => ?_).trans (blocks_first h hr (srcDev_surj c) num_le_noRow)
  exact (congrArg₂ (fun a b => if a = f i then b else noRow) (hk k).1 (hk k).2)

end

end Cert.Mesh16

end
-- ==== Proof.Reference.lean ====
/-
The reference's run: its operations on one device, in order, with the result named.
-/
module

public import proofs.«01_k».proof.Proof.Gen.ReferenceIdeal
public import Idealize.ShloMosaic.Lib.StableHlo.RunHlo
public import Idealize.ShloMosaic.Lib.Claim

@[expose] public section

noncomputable section

namespace Cert.Mesh16.Whole

open Cert.ReferenceIdeal Cert.ReferenceIdeal.Gen
open Idealize.ShloMosaic Idealize.ShloMosaic.TcCoe Idealize.ShloMosaic.StableHlo
open Idealize.SL.Sem

variable {F : FTy → Type} [FloatOps F]

/-- The largest entry of each column of the whole array. -/
def best (x : FVec F S16384x512 .f32) : FVec F S512 .f32 :=
  Host.reduce FloatOps.maximumf x (constant S_ .f32 0xFF800000#32) reducesTo_S16384x512_S512_d0 h_S_

/-- The places that an arg-max picks, of any array. -/
def places {s t u : Shape} {axes : List (Fin s.rank)} (f : F .f32 × BitVec 32 → F .f32 × BitVec 32 → F .f32 × BitVec 32)
    (x : FVec F s .f32) (y : IVec s 32) (ix : FVec F u .f32) (iy : IVec u 32) (h : s.ReducesTo axes t)
    (hu : 0 < u.numel) : IVec t 32 := fun j => (Host.argReduce f x y ix iy h hu j).2

/-- The row that the column's arg-max picks. -/
def row (x : FVec F S16384x512 .f32) : IVec S512 32 :=
  places reducer_argmax_f32_i32 x (iotaInDim S16384x512 32 0) (constant S_ .f32 0xFF800000#32)
    (constantI S_ 32 0#32) reducesTo_S16384x512_S512_d0 h_S_

/-- The reference's result: the columns' largest entries above their rows. -/
def out (x : FVec F S16384x512 .f32) : FVec F S2x512 .f32 :=
  concatenate S2x512 0 [⟨S1x512, broadcastInDim S1x512 ![1] bcast_S512_S1x512_1 (best x)⟩,
    ⟨S1x512, broadcastInDim S1x512 ![1] bcast_S512_S1x512_1 (sitofp .f32 (row x))⟩] concatenates_S1x512_S1x512_S2x512_d0

/-- The reference's operations, in order. -/
abbrev ops : List (HloOp τ sig (Elt F)) :=
  [ nullary main_call0_v0 (iotaInDim S16384x512 32 0),
    nullary main_call0_cst (constant S_ .f32 0xFF800000#32),
    nullary main_call0_c (constantI S_ 32 0#32),
    quaternary main_arg0 main_call0_v0 main_call0_cst main_call0_c main_call0_v1_0 (fun x y u v j =>
      (Host.argReduce reducer_argmax_f32_i32 x y u v reducesTo_S16384x512_S512_d0 h_S_ j).1),
    quaternary main_arg0 main_call0_v0 main_call0_cst main_call0_c main_v0 (fun x y u v j =>
      (Host.argReduce reducer_argmax_f32_i32 x y u v reducesTo_S16384x512_S512_d0 h_S_ j).2),
    unary main_v0 main_v1 (sitofp .f32),
    nullary main_cst (constant S_ .f32 0xFF800000#32),
    binary main_arg0 main_cst main_v2 (fun x v => Host.reduce FloatOps.maximumf x v reducesTo_S16384x512_S512_d0 h_S_),
    unary main_v2 main_v3 (broadcastInDim S1x512 ![1] bcast_S512_S1x512_1),
    unary main_v1 main_v4 (broadcastInDim S1x512 ![1] bcast_S512_S1x512_1),
    binary main_v3 main_v4 main_v5 (fun a b =>
      concatenate S2x512 0 [⟨S1x512, a⟩, ⟨S1x512, b⟩] concatenates_S1x512_S1x512_S2x512_d0) ]

/-- The reference is that line of operations. -/
theorem main_eq (c : Dev nD) : main (F := F) c = seq ops := rfl

/-- After the line, the result's array is `out` of the argument. -/
theorem after_out (V : Valuation τ sig (Elt F)) :
    after ops V (main_v5 : DevRef τ sig) = out (V (main_arg0 : DevRef τ sig)) := by
  after_results
  rfl

/-- After the line, the argument is unchanged. -/
theorem after_arg (V : Valuation τ sig (Elt F)) :
    after ops V (main_arg0 : DevRef τ sig) = V (main_arg0 : DevRef τ sig) := by
  after_results

/-- The reference's run: the result is `out` of the argument, and the argument is unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c : Thread nD τ).loc main_v5) = out (m ((c : Thread nD τ).loc main_arg0))
        ∧ r.2.mem ((c : Thread nD τ).loc main_arg0) = m ((c : Thread nD τ).loc main_arg0)) := by
  refine θ_run_mono (run_hlo defs main (ops := ops) main_eq (by decide) (by decide) (by simp) ?_ m ρ) fun r h c => ⟨?_, ?_⟩
  · intro _ h
    repeat (cases h with | head => rfl | tail _ h => ?_)
    exact nomatch h
  · exact (h c main_v5).trans (after_out _)
  · exact (h c main_arg0).trans (after_arg _)

end Cert.Mesh16.Whole

end
-- ==== Proof.Column.lean ====
/-
What the reference computes, on ideal values, entry by entry: each column's largest entry, and the number of the
row where it first stands.
-/
module

public import proofs.«01_k».proof.Proof.Block
public import proofs.«01_k».proof.Proof.Reference

@[expose] public section

noncomputable section

namespace Cert.Mesh16.Whole

open Cert.ReferenceIdeal Cert.ReferenceIdeal.Gen
open Idealize.ShloMosaic Idealize.ShloMosaic.TcCoe

/-- The reference's choice between two pairs keeps one of them, and it is before both. -/
theorem pick_before (p q : EReal × BitVec 32) :
    (reducer_argmax_f32_i32 (F := Ideal) p q = p ∨ reducer_argmax_f32_i32 (F := Ideal) p q = q)
      ∧ Before (reducer_argmax_f32_i32 (F := Ideal) p q) p ∧ Before (reducer_argmax_f32_i32 (F := Ideal) p q) q := by
  obtain ⟨a, u⟩ := p
  obtain ⟨b, w⟩ := q
  have key : reducer_argmax_f32_i32 (F := Ideal) (a, u) (b, w)
      = (if b < a then a else b, if b < a ∨ a = b ∧ u.toInt < w.toInt then u else w) := by
    unfold reducer_argmax_f32_i32
    simp only [Ideal.cmpf_def, Ideal.cmp, IntOp.cmpi, IntOp.ori, IntOp.andi, Scalar.select, BitVec.slt]
    by_cases h₁ : b < a <;> by_cases h₂ : a = b <;> by_cases h₃ : u.toInt < w.toInt <;> simp [h₁, h₂, h₃]
  rw [key]
  rcases lt_trichotomy b a with h | h | h
  · simp [Before, h]
  · subst h
    by_cases h₃ : u.toInt < w.toInt <;> simp [Before, h₃] <;> omega
  · simp [Before, h, h.not_gt, h.ne]

/-- On ideal values an arg-max's places are those of the plain fold over the pairs, from the start's pair. -/
theorem places_apply {s t u : Shape} {axes : List (Fin s.rank)} (f : Ideal .f32 × BitVec 32 → Ideal .f32 × BitVec 32 → Ideal .f32 × BitVec 32)
    (x : FVec Ideal s .f32) (y : IVec s 32) (ix : FVec Ideal u .f32) (iy : IVec u 32) (h : s.ReducesTo axes t)
    (hu : 0 < u.numel) (j : t.Idx) {a : EReal} {b : BitVec 32} (ha : ix (Shape.Idx.first hu) = a) (hb : iy (Shape.Idx.first hu) = b) :
    places f x y ix iy h hu j = ((Host.argReduceFiber x y h j).foldl f (a, b)).2 := by
  subst ha hb
  rw [places, Ideal.argReduce_eq_reduce2, Host.reduce2_eq_foldl_fiber]

variable (x : FVec Ideal S16384x512 .f32) (n : Fin 512)

/-- The pairs that the reference goes through for a column are its entries with their rows. -/
theorem mem_fiber (p : EReal × BitVec 32) :
    p ∈ Host.argReduceFiber x (iotaInDim S16384x512 32 0) reducesTo_S16384x512_S512_d0 (ix1 n)
      ↔ ∃ k : Fin 16384, p = (x (ix2 k n), BitVec.ofNat 32 k) := by
  have hd : ∀ i : S16384x512.Idx, reducesTo_S16384x512_S512_d0.drop i = ix1 n ↔ i = ix2 (i 0) n := fun i => by
    have hv := reducesTo_S16384x512_S512_d0.drop_apply_val_of_eq i 0 1
    constructor
    · intro e
      rw [e] at hv
      exact (eq_ix2 i).trans (congrArg (ix2 (i 0)) (Fin.ext hv.symm))
    · intro e
      refine funext fun a => ?_
      obtain rfl : a = 0 := Subsingleton.elim _ _
      exact Fin.ext (hv.trans (by rw [e]; rfl))
  simp only [Host.argReduceFiber, List.mem_map, List.mem_filter, List.mem_finRange, true_and, decide_eq_true_eq]
  constructor
  · rintro ⟨t, ht, rfl⟩
    have e := (hd _).mp ht
    exact ⟨S16384x512.rowMajor.symm t 0, Prod.ext (congrArg x e) rfl⟩
  · rintro ⟨k, rfl⟩
    refine ⟨S16384x512.rowMajor (ix2 k n), ?_, ?_⟩
    · rw [Equiv.symm_apply_apply]
      exact (hd _).mpr rfl
    · rw [Equiv.symm_apply_apply]
      rfl

section
variable {i : Fin 16384} (h : IsFirst (fun k : Fin 16384 => x (ix2 k n)) i)
include h

/-- The reference's arg-max is the first row that holds the column's largest entry. -/
theorem row_eq : row (F := Ideal) x (ix1 n) = BitVec.ofNat 32 i := by
  unfold row
  refine (places_apply _ _ _ _ _ _ _ _ start_max rfl).trans ?_
  have hl := mem_fiber x n
  generalize Host.argReduceFiber x (iotaInDim S16384x512 32 0) reducesTo_S16384x512_S512_d0 (ix1 n) = l at hl ⊢
  exact h.foldl pick_before hl

/-- The reference's maximum is the column's largest entry. -/
theorem best_eq : best (F := Ideal) x (ix1 n) = x (ix2 i n) := by
  unfold best
  simp only [pointwise]
  rw [start_max]
  exact h.fold_max

/-- The upper row of the reference's result is the column's largest entry. -/
theorem out_upper : out (F := Ideal) x (ix2 (0 : Fin 2) n) = x (ix2 i n) := by
  refine (stack_upper _ _ _ _).trans ?_
  simp only [pointwise]
  exact best_eq x n h

/-- The lower row is the number of the row where it first stands. -/
theorem out_lower : out (F := Ideal) x (ix2 (1 : Fin 2) n) = num i := by
  refine (stack_lower _ _ _ _).trans ?_
  simp only [pointwise]
  refine (congrArg (FloatOps.sitofp (F := Ideal) .f32) (row_eq x n h)).trans ?_
  show (((BitVec.ofNat 32 i).toInt : ℝ) : EReal) = num i
  rw [toInt_small (by have := i.isLt; omega)]
  simp [num]

end

end Cert.Mesh16.Whole

end
-- ==== Proof.Equation.lean ====
/-
The equation between the two programs: where the kernel's devices hold the blocks of the reference's array, every
device's result is the reference's.
-/
module

public import proofs.«01_k».proof.Proof.Gathered
public import proofs.«01_k».proof.Proof.Column
public import Idealize.ShloMosaic.Lib.Layout

@[expose] public section

noncomputable section

namespace Cert.Mesh16

open Cert.KernelIdeal Cert.KernelIdeal.Gen
open Idealize.ShloMosaic Idealize.ShloMosaic.TcCoe

/-- Entry `(k, n)` of block `d` is entry `(1024 d + k, n)` of the whole array. -/
theorem block_entry (X : FVec Ideal ⟨2, ![16384, 512]⟩ .f32) (d : Fin 16) (k : Fin 1024) (n : Fin 512) :
    Layout.block ⟨2, ![1024, 512]⟩ ⟨2, ![16384, 512]⟩ 0 16 d X (by decide) (ix2 k n) = X (ix2 (rowAt d k) n) := by
  rw [Layout.block_apply]
  refine congrArg X (funext fun a => Fin.ext ?_)
  fin_cases a
  · show (d : ℕ) * 1024 + (k : ℕ) = 1024 * d + k
    omega
  · rfl

/-- On every device the result is the reference's on the whole array. -/
theorem result_eq_out (m : (ℓ : Loc nD τ sig) → Buf (Elt Ideal) ℓ) (X : FVec Ideal ⟨2, ![16384, 512]⟩ .f32)
    (hX : ∀ c : Dev nD, m ((c : Thread nD τ).loc main_arg0) = Layout.block ⟨2, ![1024, 512]⟩ ⟨2, ![16384, 512]⟩ 0 16 c X)
    (c : Dev nD) : result (F := Ideal) m c = Whole.out (F := Ideal) X := by
  have hblk : ∀ (n : Fin 512) (d : Dev nD) (k : Fin 1024), blockOf m d (ix2 k n) = X (ix2 (rowAt d k) n) := fun n d k =>
    (congrFun (hX d) (ix2 k n)).trans (block_entry X d k n)
  funext j
  obtain ⟨i, hi⟩ := exists_first fun k : Fin 16384 => X (ix2 k (j 1))
  have hj : j = ix2 (0 : Fin 2) (j 1) ∨ j = ix2 (1 : Fin 2) (j 1) := by
    have h0 : j 0 = (0 : Fin 2) ∨ j 0 = (1 : Fin 2) := by
      have : (j 0 : ℕ) < 2 := (j 0).isLt
      rcases (by omega : (j 0 : ℕ) = 0 ∨ (j 0 : ℕ) = 1) with h | h
      · exact .inl (Fin.ext h)
      · exact .inr (Fin.ext h)
    rcases h0 with h | h
    · exact .inl ((eq_ix2 j).trans (congrArg (ix2 · (j 1)) h))
    · exact .inr ((eq_ix2 j).trans (congrArg (ix2 · (j 1)) h))
  rcases hj with h | h
  · exact (congrArg _ h).trans ((result_upper m c (j 1) (hblk (j 1)) hi).trans
      ((Whole.out_upper X (j 1) hi).symm.trans (congrArg _ h.symm)))
  · exact (congrArg _ h).trans ((result_lower m c (j 1) (hblk (j 1)) hi).trans
      ((Whole.out_lower X (j 1) hi).symm.trans (congrArg _ h.symm)))

end Cert.Mesh16

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Result
public import proofs.«01_k».proof.Proof.Same
public import proofs.«01_k».proof.Proof.Equation
public import Idealize.ShloMosaic.Adequacy
public import Idealize.ShloMosaic.Init

@[expose] public section

noncomputable section

namespace Cert.Proof

open Idealize.ShloMosaic Idealize.SL.Sem

/-- The kernel, on floats, ends on every device with its argument unchanged and every semaphore at zero: its text is the
    ideal kernel's, whose run holds for any float values. -/
theorem frame_kernel : Cert.quiescent_Kernel := fun m ρ _ =>
  Cert.Mesh16.tables_eq (F := Bits) ▸ Cert.Mesh16.run_frame (F := Bits) m ρ

/-- The ideal kernel ends on every device with its argument unchanged and every semaphore at zero. -/
theorem frame_ideal : Cert.quiescent_KernelIdeal := fun m ρ _ => Cert.Mesh16.run_frame m ρ

/-- The reference ends with its argument unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.Mesh16.Whole.run m ρ)

/-- No operation of the kernel was rewritten to make it ideal. -/
theorem preserves : Cert.preserves_Kernel_KernelIdeal := trivial

/-- Where the devices hold the blocks of the reference's array, every device's result is the reference's. -/
theorem algebraic : Cert.algebraic_KernelIdeal_ReferenceIdeal := fun m g m' g' _ hagree =>
  ⟨Cert.Mesh16.Whole.out (F := Ideal) (m' (((0 : Dev Cert.ReferenceIdeal.nD).tc : Thread Cert.ReferenceIdeal.nD Cert.ReferenceIdeal.τ).loc
      Cert.ReferenceIdeal.main_arg0)),
    (θ_run Cert.KernelIdeal.defs _ _).mono (fun _ h c => ⟨(h c).1.trans (Cert.Mesh16.result_eq_out m _ hagree c), (h c).2⟩)
      (Cert.Mesh16.run_result m g),
    (θ_run Cert.ReferenceIdeal.defs _ _).mono (fun _ h => h 0) (Cert.Mesh16.Whole.run m' g')⟩

theorem claim : Cert.Claim := ⟨Cert.Kernel.Gen.facts, Cert.KernelIdeal.Gen.facts, Cert.ReferenceIdeal.Gen.facts,
  frame_kernel, frame_ideal, frame_reference, preserves, algebraic⟩

end Cert.Proof

end
